-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x5120 : Shape := ⟨2, ![1536, 5120]⟩
abbrev S5120x1536 : Shape := ⟨2, ![5120, 1536]⟩
abbrev S40x12 : Shape := ⟨2, ![40, 12]⟩
abbrev S12x40 : Shape := ⟨2, ![12, 40]⟩
abbrev S1536x1536 : Shape := ⟨2, ![1536, 1536]⟩
abbrev S6x2x1536 : Shape := ⟨3, ![6, 2, 1536]⟩
abbrev S6x2x5120 : Shape := ⟨3, ![6, 2, 5120]⟩
abbrev S1536x256 : Shape := ⟨2, ![1536, 256]⟩
abbrev S256x1536 : Shape := ⟨2, ![256, 1536]⟩
abbrev S1152x1536 : Shape := ⟨2, ![1152, 1536]⟩
abbrev S1152x256 : Shape := ⟨2, ![1152, 256]⟩
abbrev S6x2x256 : Shape := ⟨3, ![6, 2, 256]⟩
abbrev S20x2x1536 : Shape := ⟨3, ![20, 2, 1536]⟩
abbrev S40x1 : Shape := ⟨2, ![40, 1]⟩
abbrev S40x128 : Shape := ⟨2, ![40, 128]⟩
abbrev S2x128 : Shape := ⟨2, ![2, 128]⟩
abbrev S1x2x128 : Shape := ⟨3, ![1, 2, 128]⟩
abbrev S1x2x1536 : Shape := ⟨3, ![1, 2, 1536]⟩
abbrev S2x1536 : Shape := ⟨2, ![2, 1536]⟩
abbrev S1x1536 : Shape := ⟨2, ![1, 1536]⟩
abbrev S128x1536 : Shape := ⟨2, ![128, 1536]⟩
abbrev S64x1536 : Shape := ⟨2, ![64, 1536]⟩
abbrev S1536x128 : Shape := ⟨2, ![1536, 128]⟩
abbrev S1x1x1536 : Shape := ⟨3, ![1, 1, 1536]⟩
abbrev S12 : Shape := ⟨1, ![12]⟩
abbrev S12x1 : Shape := ⟨2, ![12, 1]⟩
abbrev S12x128 : Shape := ⟨2, ![12, 128]⟩
abbrev S128x128 : Shape := ⟨2, ![128, 128]⟩
abbrev S1x128 : Shape := ⟨2, ![1, 128]⟩
abbrev S64x128 : Shape := ⟨2, ![64, 128]⟩
abbrev S128x256 : Shape := ⟨2, ![128, 256]⟩
abbrev S256 : Shape := ⟨1, ![256]⟩
abbrev S1x256 : Shape := ⟨2, ![1, 256]⟩
abbrev S2x256 : Shape := ⟨2, ![2, 256]⟩
abbrev S1x2x256 : Shape := ⟨3, ![1, 2, 256]⟩

abbrev nBuf : Space → Nat
  | .hbm => 28
  | .vmem => 50
  | .smem => 0
  | _ => 0

abbrev bufTy : (tb : Table) → Fin (tcTables nBuf tb) → BufTy
  | .hbm, ⟨0, _⟩ => ⟨S1536x5120, .bf16⟩
  | .hbm, ⟨1, _⟩ => ⟨S1536x5120, .bf16⟩
  | .hbm, ⟨2, _⟩ => ⟨S5120x1536, .fp8e4m3⟩
  | .hbm, ⟨3, _⟩ => ⟨S40x12, .i8⟩
  | .hbm, ⟨4, _⟩ => ⟨S5120x1536, .fp8e4m3⟩
  | .hbm, ⟨5, _⟩ => ⟨S40x12, .i8⟩
  | .hbm, ⟨6, _⟩ => ⟨S1536x5120, .fp8e4m3⟩
  | .hbm, ⟨7, _⟩ => ⟨S12x40, .i8⟩
  | .hbm, ⟨8, _⟩ => ⟨S1536x1536, .bf16⟩
  | .hbm, ⟨9, _⟩ => ⟨S1536x1536, .bf16⟩
  | .hbm, ⟨10, _⟩ => ⟨S1536x1536, .bf16⟩
  | .hbm, ⟨11, _⟩ => ⟨S1536x1536, .fp8e4m3⟩
  | .hbm, ⟨12, _⟩ => ⟨S6x2x1536, .i8⟩
  | .hbm, ⟨13, _⟩ => ⟨S1536x1536, .fp8e4m3⟩
  | .hbm, ⟨14, _⟩ => ⟨S6x2x1536, .i8⟩
  | .hbm, ⟨15, _⟩ => ⟨S1536x1536, .fp8e4m3⟩
  | .hbm, ⟨16, _⟩ => ⟨S6x2x1536, .i8⟩
  | .hbm, ⟨17, _⟩ => ⟨S1536x5120, .bf16⟩
  | .hbm, ⟨18, _⟩ => ⟨S1536x5120, .bf16⟩
  | .hbm, ⟨19, _⟩ => ⟨S1536x5120, .bf16⟩
  | .hbm, ⟨20, _⟩ => ⟨S1536x5120, .bf16⟩
  | .hbm, ⟨21, _⟩ => ⟨S5120x1536, .f32⟩
  | .hbm, ⟨22, _⟩ => ⟨S5120x1536, .f32⟩
  | .hbm, ⟨23, _⟩ => ⟨S1536x5120, .f32⟩
  | .hbm, ⟨24, _⟩ => ⟨S1536x5120, .fp8e4m3⟩
  | .hbm, ⟨25, _⟩ => ⟨S6x2x5120, .i8⟩
  | .hbm, ⟨26, _⟩ => ⟨S1536x5120, .fp8e4m3⟩
  | .hbm, ⟨27, _⟩ => ⟨S6x2x5120, .i8⟩
  | .local _ .vmem, ⟨0, _⟩ => ⟨S1536x256, .bf16⟩
  | .local _ .vmem, ⟨1, _⟩ => ⟨S1536x256, .bf16⟩
  | .local _ .vmem, ⟨2, _⟩ => ⟨S1536x256, .bf16⟩
  | .local _ .vmem, ⟨3, _⟩ => ⟨S1536x256, .bf16⟩
  | .local _ .vmem, ⟨4, _⟩ => ⟨S256x1536, .fp8e4m3⟩
  | .local _ .vmem, ⟨5, _⟩ => ⟨S256x1536, .fp8e4m3⟩
  | .local _ .vmem, ⟨6, _⟩ => ⟨S256x1536, .fp8e4m3⟩
  | .local _ .vmem, ⟨7, _⟩ => ⟨S256x1536, .fp8e4m3⟩
  | .local _ .vmem, ⟨8, _⟩ => ⟨S1536x256, .fp8e4m3⟩
  | .local _ .vmem, ⟨9, _⟩ => ⟨S1536x256, .fp8e4m3⟩
  | .local _ .vmem, ⟨10, _⟩ => ⟨S40x12, .i8⟩
  | .local _ .vmem, ⟨11, _⟩ => ⟨S40x12, .i8⟩
  | .local _ .vmem, ⟨12, _⟩ => ⟨S12x40, .i8⟩
  | .local _ .vmem, ⟨13, _⟩ => ⟨S1152x1536, .bf16⟩
  | .local _ .vmem, ⟨14, _⟩ => ⟨S1152x1536, .bf16⟩
  | .local _ .vmem, ⟨15, _⟩ => ⟨S1152x1536, .bf16⟩
  | .local _ .vmem, ⟨16, _⟩ => ⟨S1536x1536, .fp8e4m3⟩
  | .local _ .vmem, ⟨17, _⟩ => ⟨S6x2x1536, .i8⟩
  | .local _ .vmem, ⟨18, _⟩ => ⟨S1536x1536, .fp8e4m3⟩
  | .local _ .vmem, ⟨19, _⟩ => ⟨S6x2x1536, .i8⟩
  | .local _ .vmem, ⟨20, _⟩ => ⟨S1536x1536, .fp8e4m3⟩
  | .local _ .vmem, ⟨21, _⟩ => ⟨S6x2x1536, .i8⟩
  | .local _ .vmem, ⟨22, _⟩ => ⟨S1152x256, .bf16⟩
  | .local _ .vmem, ⟨23, _⟩ => ⟨S1152x256, .bf16⟩
  | .local _ .vmem, ⟨24, _⟩ => ⟨S1152x256, .bf16⟩
  | .local _ .vmem, ⟨25, _⟩ => ⟨S1152x256, .bf16⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S1536x256, .f32⟩
  | .local _ .vmem, ⟨31, _⟩ => ⟨S1536x256, .f32⟩
  | .local _ .vmem, ⟨32, _⟩ => ⟨S1536x256, .fp8e4m3⟩
  | .local _ .vmem, ⟨33, _⟩ => ⟨S1536x256, .fp8e4m3⟩
  | .local _ .vmem, ⟨34, _⟩ => ⟨S6x2x256, .i8⟩
  | .local _ .vmem, ⟨35, _⟩ => ⟨S6x2x256, .i8⟩
  | .local _ .vmem, ⟨36, _⟩ => ⟨S1536x256, .fp8e4m3⟩
  | .local _ .vmem, ⟨37, _⟩ => ⟨S1536x256, .fp8e4m3⟩
  | .local _ .vmem, ⟨38, _⟩ => ⟨S6x2x256, .i8⟩
  | .local _ .vmem, ⟨39, _⟩ => ⟨S6x2x256, .i8⟩
  | .local _ .vmem, ⟨40, _⟩ => ⟨S1536x1536, .bf16⟩
  | .local _ .vmem, ⟨41, _⟩ => ⟨S1536x1536, .bf16⟩
  | .local _ .vmem, ⟨42, _⟩ => ⟨S1536x1536, .bf16⟩
  | .local _ .vmem, ⟨43, _⟩ => ⟨S256x1536, .bf16⟩
  | .local _ .vmem, ⟨44, _⟩ => ⟨S256x1536, .bf16⟩
  | .local _ .vmem, ⟨45, _⟩ => ⟨S1536x256, .bf16⟩
  | .local _ .vmem, ⟨46, _⟩ => ⟨S1536x256, .bf16⟩
  | .local _ .vmem, ⟨47, _⟩ => ⟨S1536x256, .bf16⟩
  | .local _ .vmem, ⟨48, _⟩ => ⟨S20x2x1536, .i32⟩
  | .local _ .vmem, ⟨49, _⟩ => ⟨S20x2x1536, .i32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev main_v0_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_scratch7 : Ref sig .tc := ⟨.vmem, 47, rfl⟩
abbrev cc0_scratch8 : Ref sig .tc := ⟨.vmem, 48, rfl⟩
abbrev cc0_scratch9 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨1, ![20], ![false]⟩

def k0_off1 (i : grid0.Coords) : Fin 3 → Nat :=
  let arg0 : BitVec 32 := BitVec.ofNat 32 (i 0).val
  let v5 : Index := Scalar.indexCast arg0
  let c0_2 : Index := 0#32
  let c0_3 : Index := 0#32
  ![v5.toNat, 0, 0]
def k0_off2 (i : grid0.Coords) : Fin 3 → Nat :=
  let arg0 : BitVec 32 := BitVec.ofNat 32 (i 0).val
  let v29 : Index := Scalar.indexCast arg0
  let c1 : Index := 1#32
  let c0_13 : Index := 0#32
  ![v29.toNat, 1, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S40x12 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40x12 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x40 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1152x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1152x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1152x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x2x1536 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x1536 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x2x1536 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1536x1536 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x2x1536 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1152x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1152x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1536x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1536x256 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S6x2x256 .i8 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1536x256 .fp8e4m3 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S6x2x256 .i8 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S1536x5120 : Shape := ⟨2, ![1536, 5120]⟩
abbrev S5120x1536 : Shape := ⟨2, ![5120, 1536]⟩
abbrev S40x12 : Shape := ⟨2, ![40, 12]⟩
abbrev S12x40 : Shape := ⟨2, ![12, 40]⟩
abbrev S1536x1536 : Shape := ⟨2, ![1536, 1536]⟩
abbrev S6x2x1536 : Shape := ⟨3, ![6, 2, 1536]⟩
abbrev S6x2x5120 : Shape := ⟨3, ![6, 2, 5120]⟩
abbrev S40x1x12x1 : Shape := ⟨4, ![40, 1, 12, 1]⟩
abbrev S40x128x12x128 : Shape := ⟨4, ![40, 128, 12, 128]⟩
abbrev S12x1x40x1 : Shape := ⟨4, ![12, 1, 40, 1]⟩
abbrev S12x128x40x128 : Shape := ⟨4, ![12, 128, 40, 128]⟩
abbrev S6x2x128x5120 : Shape := ⟨4, ![6, 2, 128, 5120]⟩
abbrev S6x2x1x5120 : Shape := ⟨4, ![6, 2, 1, 5120]⟩
abbrev S1152x5120 : Shape := ⟨2, ![1152, 5120]⟩
abbrev S384x5120 : Shape := ⟨2, ![384, 5120]⟩
abbrev S6x2x1x1536 : Shape := ⟨4, ![6, 2, 1, 1536]⟩
abbrev S6x2x128x1536 : Shape := ⟨4, ![6, 2, 128, 1536]⟩

abbrev nBuf : Space → Nat
  | .hbm => 28
  | .vmem => 28
  | .smem => 0
  | _ => 0

abbrev bufTy : (tb : Table) → Fin (tcTables nBuf tb) → BufTy
  | .hbm, ⟨0, _⟩ => ⟨S1536x5120, .bf16⟩
  | .hbm, ⟨1, _⟩ => ⟨S1536x5120, .bf16⟩
  | .hbm, ⟨2, _⟩ => ⟨S5120x1536, .fp8e4m3⟩
  | .hbm, ⟨3, _⟩ => ⟨S40x12, .i8⟩
  | .hbm, ⟨4, _⟩ => ⟨S5120x1536, .fp8e4m3⟩
  | .hbm, ⟨5, _⟩ => ⟨S40x12, .i8⟩
  | .hbm, ⟨6, _⟩ => ⟨S1536x5120, .fp8e4m3⟩
  | .hbm, ⟨7, _⟩ => ⟨S12x40, .i8⟩
  | .hbm, ⟨8, _⟩ => ⟨S1536x1536, .bf16⟩
  | .hbm, ⟨9, _⟩ => ⟨S1536x1536, .bf16⟩
  | .hbm, ⟨10, _⟩ => ⟨S1536x1536, .bf16⟩
  | .hbm, ⟨11, _⟩ => ⟨S1536x1536, .fp8e4m3⟩
  | .hbm, ⟨12, _⟩ => ⟨S6x2x1536, .i8⟩
  | .hbm, ⟨13, _⟩ => ⟨S1536x1536, .fp8e4m3⟩
  | .hbm, ⟨14, _⟩ => ⟨S6x2x1536, .i8⟩
  | .hbm, ⟨15, _⟩ => ⟨S1536x1536, .fp8e4m3⟩
  | .hbm, ⟨16, _⟩ => ⟨S6x2x1536, .i8⟩
  | .hbm, ⟨17, _⟩ => ⟨S1536x5120, .bf16⟩
  | .hbm, ⟨18, _⟩ => ⟨S1536x5120, .bf16⟩
  | .hbm, ⟨19, _⟩ => ⟨S1536x5120, .bf16⟩
  | .hbm, ⟨20, _⟩ => ⟨S1536x5120, .bf16⟩
  | .hbm, ⟨21, _⟩ => ⟨S5120x1536, .f32⟩
  | .hbm, ⟨22, _⟩ => ⟨S5120x1536, .f32⟩
  | .hbm, ⟨23, _⟩ => ⟨S1536x5120, .f32⟩
  | .hbm, ⟨24, _⟩ => ⟨S1536x5120, .fp8e4m3⟩
  | .hbm, ⟨25, _⟩ => ⟨S6x2x5120, .i8⟩
  | .hbm, ⟨26, _⟩ => ⟨S1536x5120, .fp8e4m3⟩
  | .hbm, ⟨27, _⟩ => ⟨S6x2x5120, .i8⟩
  | .local _ .vmem, ⟨0, _⟩ => ⟨S1536x5120, .bf16⟩
  | .local _ .vmem, ⟨1, _⟩ => ⟨S1536x5120, .bf16⟩
  | .local _ .vmem, ⟨2, _⟩ => ⟨S5120x1536, .fp8e4m3⟩
  | .local _ .vmem, ⟨3, _⟩ => ⟨S40x12, .i8⟩
  | .local _ .vmem, ⟨4, _⟩ => ⟨S5120x1536, .fp8e4m3⟩
  | .local _ .vmem, ⟨5, _⟩ => ⟨S40x12, .i8⟩
  | .local _ .vmem, ⟨6, _⟩ => ⟨S1536x5120, .fp8e4m3⟩
  | .local _ .vmem, ⟨7, _⟩ => ⟨S12x40, .i8⟩
  | .local _ .vmem, ⟨8, _⟩ => ⟨S1536x1536, .bf16⟩
  | .local _ .vmem, ⟨9, _⟩ => ⟨S1536x1536, .bf16⟩
  | .local _ .vmem, ⟨10, _⟩ => ⟨S1536x1536, .bf16⟩
  | .local _ .vmem, ⟨11, _⟩ => ⟨S1536x1536, .fp8e4m3⟩
  | .local _ .vmem, ⟨12, _⟩ => ⟨S6x2x1536, .i8⟩
  | .local _ .vmem, ⟨13, _⟩ => ⟨S1536x1536, .fp8e4m3⟩
  | .local _ .vmem, ⟨14, _⟩ => ⟨S6x2x1536, .i8⟩
  | .local _ .vmem, ⟨15, _⟩ => ⟨S1536x1536, .fp8e4m3⟩
  | .local _ .vmem, ⟨16, _⟩ => ⟨S6x2x1536, .i8⟩
  | .local _ .vmem, ⟨17, _⟩ => ⟨S1536x5120, .bf16⟩
  | .local _ .vmem, ⟨18, _⟩ => ⟨S1536x5120, .bf16⟩
  | .local _ .vmem, ⟨19, _⟩ => ⟨S1536x5120, .bf16⟩
  | .local _ .vmem, ⟨20, _⟩ => ⟨S1536x5120, .bf16⟩
  | .local _ .vmem, ⟨21, _⟩ => ⟨S5120x1536, .f32⟩
  | .local _ .vmem, ⟨22, _⟩ => ⟨S5120x1536, .f32⟩
  | .local _ .vmem, ⟨23, _⟩ => ⟨S1536x5120, .f32⟩
  | .local _ .vmem, ⟨24, _⟩ => ⟨S1536x5120, .fp8e4m3⟩
  | .local _ .vmem, ⟨25, _⟩ => ⟨S6x2x5120, .i8⟩
  | .local _ .vmem, ⟨26, _⟩ => ⟨S1536x5120, .fp8e4m3⟩
  | .local _ .vmem, ⟨27, _⟩ => ⟨S6x2x5120, .i8⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev main_v0_8 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x12 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x12 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x40 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x2x1536 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x1536 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x2x1536 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x1536 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x2x1536 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1536x5120 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1536x5120 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1536x5120 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1536x5120 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S5120x1536 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S5120x1536 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1536x5120 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1536x5120 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S6x2x5120 .i8 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1536x5120 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S6x2x5120 .i8 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Proof.HeldFirst.lean ====
module

public import proofs.«01_k».proof.Proof.Gen.KernelIdeal.Frame.RunB
public import Idealize.ShloMosaic.Lib.Claim

/-! # What the body leaves at the grid's first point

The backward kernel's body has two cases: the grid's first point, where it also fills the scratch that the later
points read, and every other point. This module is about the first. For each output, and for each of the five
scratch arrays that are carried on, it says that the body's stores cover the whole block (`cover0_A_*`,
`scover0_A_*`), and names the block they leave (`out0_A_*`, `sout0_A_*`). The text follows the generated frame; the
arguments all the statements share are given once. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8)

/-- Case A's pieces for output 17 tile its block (1 store of `S1152x256`, checked by evaluation), so they cover it. -/
theorem cover0_A_17 (y : S1152x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).1 S1152x256.size (by sl_kernel_rfl) y

/-- What case A leaves in output 17's staging buffer: its pieces read back over junk. -/
def out0_A_17 : Vec F S1152x256 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).1)

/-- Case A's pieces for output 18 tile its block (1 store of `S1152x256`, checked by evaluation), so they cover it. -/
theorem cover0_A_18 (y : S1152x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.1 S1152x256.size (by sl_kernel_rfl) y

/-- What case A leaves in output 18's staging buffer: its pieces read back over junk. -/
def out0_A_18 : Vec F S1152x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.1)

/-- Case A's pieces for output 19 tile its block (1 store of `S256x1536`, checked by evaluation), so they cover it. -/
theorem cover0_A_19 (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.1 S256x1536.size (by sl_kernel_rfl) y

/-- What case A leaves in output 19's staging buffer: its pieces read back over junk. -/
def out0_A_19 : Vec F S256x1536 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.1)

/-- Case A's pieces for output 20 tile its block (1 store of `S256x1536`, checked by evaluation), so they cover it. -/
theorem cover0_A_20 (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.1 S256x1536.size (by sl_kernel_rfl) y

/-- What case A leaves in output 20's staging buffer: its pieces read back over junk. -/
def out0_A_20 : Vec F S256x1536 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.1)

/-- Case A's pieces for output 21 tile its block (1 store of `S1536x256`, checked by evaluation), so they cover it. -/
theorem cover0_A_21 (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.1 S1536x256.size (by sl_kernel_rfl) y

/-- What case A leaves in output 21's staging buffer: its pieces read back over junk. -/
def out0_A_21 : Vec F S1536x256 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.1)

/-- Case A's pieces for output 22 tile its block (12 stores of `S128x256`, checked by evaluation), so they cover it. -/
theorem cover0_A_22 (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.1 S128x256.size (by sl_kernel_rfl) y

/-- What case A leaves in output 22's staging buffer: its pieces read back over junk. -/
def out0_A_22 : Vec F S1536x256 .fp8e4m3 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.1)

/-- Case A's pieces for output 23 tile its block (6 stores of `S1x2x256`, checked by evaluation), so they cover it. -/
theorem cover0_A_23 (y : S6x2x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.1 S1x2x256.size (by sl_kernel_rfl) y

/-- What case A leaves in output 23's staging buffer: its pieces read back over junk. -/
def out0_A_23 : Vec F S6x2x256 .i8 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.1)

/-- Case A's pieces for output 24 tile its block (12 stores of `S128x256`, checked by evaluation), so they cover it. -/
theorem cover0_A_24 (y : S1536x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.1 S128x256.size (by sl_kernel_rfl) y

/-- What case A leaves in output 24's staging buffer: its pieces read back over junk. -/
def out0_A_24 : Vec F S1536x256 .fp8e4m3 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.1)

/-- Case A's pieces for output 25 tile its block (6 stores of `S1x2x256`, checked by evaluation), so they cover it. -/
theorem cover0_A_25 (y : S6x2x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.1 S1x2x256.size (by sl_kernel_rfl) y

/-- What case A leaves in output 25's staging buffer: its pieces read back over junk. -/
def out0_A_25 : Vec F S6x2x256 .i8 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.1)

/-- Case A's pieces for scratch `arg29`, which the kernel carries between points, cover it: 12 pieces of `S1536x128` tiling it (Lib/Ring.lean `Piece.tiledL`). -/
theorem scover0_A_0 (y : S1536x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.1 S1536x128.size (by sl_kernel_rfl) y

/-- What case A leaves in scratch `arg29`: its pieces read back over junk. -/
def sout0_A_0 : Vec F S1536x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.1)

/-- Case A's pieces for scratch `arg30`, which the kernel carries between points, cover it: 12 pieces of `S128x1536` tiling it (Lib/Ring.lean `Piece.tiledL`). -/
theorem scover0_A_1 (y : S1536x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.1 S128x1536.size (by sl_kernel_rfl) y

/-- What case A leaves in scratch `arg30`: its pieces read back over junk. -/
def sout0_A_1 : Vec F S1536x1536 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.1)

/-- Case A's pieces for scratch `arg31`, which the kernel carries between points, cover it: 12 pieces of `S128x1536` tiling it (Lib/Ring.lean `Piece.tiledL`). -/
theorem scover0_A_2 (y : S1536x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.1 S128x1536.size (by sl_kernel_rfl) y

/-- What case A leaves in scratch `arg31`: its pieces read back over junk. -/
def sout0_A_2 : Vec F S1536x1536 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.1)

/-- Case A's pieces for scratch `arg37`, which the kernel carries between points, cover it: 240 pieces of `S1x2x128` tiling it (Lib/Ring.lean `Piece.tiledL`). -/
theorem scover0_A_8 (y : S20x2x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.2.1 S1x2x128.size (by sl_kernel_rfl) y

/-- What case A leaves in scratch `arg37`: its pieces read back over junk. -/
def sout0_A_8 : Vec F S20x2x1536 .i32 :=
  VS0_8.read (Elt F) (VS0_8.writes (Elt F) VS0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.2.1)

/-- Case A's pieces for scratch `arg38`, which the kernel carries between points, cover it: 240 pieces of `S1x2x128` tiling it (Lib/Ring.lean `Piece.tiledL`). -/
theorem scover0_A_9 (y : S20x2x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.2.2.1 S1x2x128.size (by sl_kernel_rfl) y

/-- What case A leaves in scratch `arg38`: its pieces read back over junk. -/
def sout0_A_9 : Vec F S20x2x1536 .i32 :=
  VS0_9.read (Elt F) (VS0_9.writes (Elt F) VS0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16).2.2.2.2.2.2.2.2.2.2.2.2.2.1)

end

end Cert.KernelIdeal.Gen

end
-- ==== Proof.HeldLater.lean ====
module

public import proofs.«01_k».proof.Proof.HeldFirst

/-! # What the body leaves at a later grid point

As `HeldFirst`, for the points after the first: the outputs' stores cover their blocks, and the carried scratch is
left as it was found. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8) (xs0 : Vec F S1536x1536 .bf16) (xs1 : Vec F S1536x1536 .bf16) (xs2 : Vec F S1536x1536 .bf16) (xs8 : Vec F S20x2x1536 .i32) (xs9 : Vec F S20x2x1536 .i32)

/-- Case B's pieces for output 17 tile its block (1 store of `S1152x256`, checked by evaluation), so they cover it. -/
theorem cover0_B_17 (y : S1152x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).1 S1152x256.size (by sl_kernel_rfl) y

/-- What case B leaves in output 17's staging buffer: its pieces read back over junk. -/
def out0_B_17 : Vec F S1152x256 .bf16 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).1)

/-- Case B's pieces for output 18 tile its block (1 store of `S1152x256`, checked by evaluation), so they cover it. -/
theorem cover0_B_18 (y : S1152x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.1 S1152x256.size (by sl_kernel_rfl) y

/-- What case B leaves in output 18's staging buffer: its pieces read back over junk. -/
def out0_B_18 : Vec F S1152x256 .bf16 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.1)

/-- Case B's pieces for output 19 tile its block (1 store of `S256x1536`, checked by evaluation), so they cover it. -/
theorem cover0_B_19 (y : S256x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.1 S256x1536.size (by sl_kernel_rfl) y

/-- What case B leaves in output 19's staging buffer: its pieces read back over junk. -/
def out0_B_19 : Vec F S256x1536 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.1)

/-- Case B's pieces for output 20 tile its block (1 store of `S256x1536`, checked by evaluation), so they cover it. -/
theorem cover0_B_20 (y : S256x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.1 S256x1536.size (by sl_kernel_rfl) y

/-- What case B leaves in output 20's staging buffer: its pieces read back over junk. -/
def out0_B_20 : Vec F S256x1536 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.1)

/-- Case B's pieces for output 21 tile its block (1 store of `S1536x256`, checked by evaluation), so they cover it. -/
theorem cover0_B_21 (y : S1536x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.1 S1536x256.size (by sl_kernel_rfl) y

/-- What case B leaves in output 21's staging buffer: its pieces read back over junk. -/
def out0_B_21 : Vec F S1536x256 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.1)

/-- Case B's pieces for output 22 tile its block (12 stores of `S128x256`, checked by evaluation), so they cover it. -/
theorem cover0_B_22 (y : S1536x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.1 S128x256.size (by sl_kernel_rfl) y

/-- What case B leaves in output 22's staging buffer: its pieces read back over junk. -/
def out0_B_22 : Vec F S1536x256 .fp8e4m3 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.1)

/-- Case B's pieces for output 23 tile its block (6 stores of `S1x2x256`, checked by evaluation), so they cover it. -/
theorem cover0_B_23 (y : S6x2x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.1 S1x2x256.size (by sl_kernel_rfl) y

/-- What case B leaves in output 23's staging buffer: its pieces read back over junk. -/
def out0_B_23 : Vec F S6x2x256 .i8 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.1)

/-- Case B's pieces for output 24 tile its block (12 stores of `S128x256`, checked by evaluation), so they cover it. -/
theorem cover0_B_24 (y : S1536x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.2.1 S128x256.size (by sl_kernel_rfl) y

/-- What case B leaves in output 24's staging buffer: its pieces read back over junk. -/
def out0_B_24 : Vec F S1536x256 .fp8e4m3 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.2.1)

/-- Case B's pieces for output 25 tile its block (6 stores of `S1x2x256`, checked by evaluation), so they cover it. -/
theorem cover0_B_25 (y : S6x2x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.2.2.1 S1x2x256.size (by sl_kernel_rfl) y

/-- What case B leaves in output 25's staging buffer: its pieces read back over junk. -/
def out0_B_25 : Vec F S6x2x256 .i8 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9).2.2.2.2.2.2.2.2.1)

end

/-- Case B stores nothing into scratch `arg29`: it holds what the point before left. -/
def sout0_B_0 (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8) (xs0 : Vec F S1536x1536 .bf16) (xs1 : Vec F S1536x1536 .bf16) (xs2 : Vec F S1536x1536 .bf16) (xs8 : Vec F S20x2x1536 .i32) (xs9 : Vec F S20x2x1536 .i32) : Vec F S1536x1536 .bf16 := xs0

/-- Case B stores nothing into scratch `arg30`: it holds what the point before left. -/
def sout0_B_1 (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8) (xs0 : Vec F S1536x1536 .bf16) (xs1 : Vec F S1536x1536 .bf16) (xs2 : Vec F S1536x1536 .bf16) (xs8 : Vec F S20x2x1536 .i32) (xs9 : Vec F S20x2x1536 .i32) : Vec F S1536x1536 .bf16 := xs1

/-- Case B stores nothing into scratch `arg31`: it holds what the point before left. -/
def sout0_B_2 (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8) (xs0 : Vec F S1536x1536 .bf16) (xs1 : Vec F S1536x1536 .bf16) (xs2 : Vec F S1536x1536 .bf16) (xs8 : Vec F S20x2x1536 .i32) (xs9 : Vec F S20x2x1536 .i32) : Vec F S1536x1536 .bf16 := xs2

/-- Case B stores nothing into scratch `arg37`: it holds what the point before left. -/
def sout0_B_8 (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8) (xs0 : Vec F S1536x1536 .bf16) (xs1 : Vec F S1536x1536 .bf16) (xs2 : Vec F S1536x1536 .bf16) (xs8 : Vec F S20x2x1536 .i32) (xs9 : Vec F S20x2x1536 .i32) : Vec F S20x2x1536 .i32 := xs8

/-- Case B stores nothing into scratch `arg38`: it holds what the point before left. -/
def sout0_B_9 (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec F S1536x256 .bf16) (x1 : Vec F S1536x256 .bf16) (x2 : Vec F S256x1536 .fp8e4m3) (x3 : Vec F S256x1536 .fp8e4m3) (x4 : Vec F S1536x256 .fp8e4m3) (x5 : Vec F S40x12 .i8) (x6 : Vec F S40x12 .i8) (x7 : Vec F S12x40 .i8) (x8 : Vec F S1152x1536 .bf16) (x9 : Vec F S1152x1536 .bf16) (x10 : Vec F S1152x1536 .bf16) (x11 : Vec F S1536x1536 .fp8e4m3) (x12 : Vec F S6x2x1536 .i8) (x13 : Vec F S1536x1536 .fp8e4m3) (x14 : Vec F S6x2x1536 .i8) (x15 : Vec F S1536x1536 .fp8e4m3) (x16 : Vec F S6x2x1536 .i8) (xs0 : Vec F S1536x1536 .bf16) (xs1 : Vec F S1536x1536 .bf16) (xs2 : Vec F S1536x1536 .bf16) (xs8 : Vec F S20x2x1536 .i32) (xs9 : Vec F S20x2x1536 .i32) : Vec F S20x2x1536 .i32 := xs9

end Cert.KernelIdeal.Gen

end
-- ==== Proof.Held.lean ====
module

public import proofs.«01_k».proof.Proof.HeldLater

/-! # What the buffers hold point by point

The outputs' buffers and the carried scratch after each grid point (`outsAt0`), the invariant between two points
(`PhiS`), the data of the run (`dats`) and what each window holds before and after the body. The text follows the
generated frame. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1152x256 .bf16 × Vec F S1152x256 .bf16 × Vec F S256x1536 .f32 × Vec F S256x1536 .f32 × Vec F S1536x256 .f32 × Vec F S1536x256 .fp8e4m3 × Vec F S6x2x256 .i8 × Vec F S1536x256 .fp8e4m3 × Vec F S6x2x256 .i8 × Vec F S1536x1536 .bf16 × Vec F S1536x1536 .bf16 × Vec F S1536x1536 .bf16 × Vec F S20x2x1536 .i32 × Vec F S20x2x1536 .i32
  | 0, hn => (out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), sout0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (X0_8 m c ⟨0, hn⟩) (X0_9 m c ⟨0, hn⟩) (X0_10 m c ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩))
  | n + 1, hn =>
    if h0 : (n + 1) % 20 = 0 then
      (out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩), sout0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩))
    else
      (out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2, sout0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (X0_8 m c ⟨n + 1, hn⟩) (X0_9 m c ⟨n + 1, hn⟩) (X0_10 m c ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2)

/-- `outsAt0` at a point of case A: that case's contents. -/
theorem outsAt0_A (c : Dev nD) (t : Fin cfg0.N) (h0 : t.val % 20 = 0) :
    outsAt0 m c t.val t.isLt = (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), sout0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t), sout0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 20 = 0) :
    outsAt0 m c t.val t.isLt = (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2, sout0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2.1) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ owns (c : Thread nD τ) scM0_8 fullShare ((outsAt0 m c n hn).2.2.2.2.2.2.2.2.2.2.2.2.1) ∗ owns (c : Thread nD τ) scM0_9 fullShare ((outsAt0 m c n hn).2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2.1) ∗ owns (c : Thread nD τ) scM0_2 fullShare ((outsAt0 m c n hn).2.2.2.2.2.2.2.2.2.2.2.1) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ owns (c : Thread nD τ) scM0_8 fullShare ((outsAt0 m c n hn).2.2.2.2.2.2.2.2.2.2.2.2.1) ∗ owns (c : Thread nD τ) scM0_9 fullShare ((outsAt0 m c n hn).2.2.2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.1) ∗ owns (c : Thread nD τ) scM0_1 fullShare ((outsAt0 m c (n - 1) (by omega)).2.2.2.2.2.2.2.2.2.2.1) ∗ owns (c : Thread nD τ) scM0_2 fullShare ((outsAt0 m c (n - 1) (by omega)).2.2.2.2.2.2.2.2.2.2.2.1) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ owns (c : Thread nD τ) scM0_8 fullShare ((outsAt0 m c (n - 1) (by omega)).2.2.2.2.2.2.2.2.2.2.2.2.1) ∗ owns (c : Thread nD τ) scM0_9 fullShare ((outsAt0 m c (n - 1) (by omega)).2.2.2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => X0_8 m c t
    | ⟨9, _⟩ => X0_9 m c t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨19, _⟩ => (outsAt0 m c t.val t.isLt).2.2.1
    | ⟨20, _⟩ => (outsAt0 m c t.val t.isLt).2.2.2.1
    | ⟨21, _⟩ => (outsAt0 m c t.val t.isLt).2.2.2.2.1
    | ⟨22, _⟩ => (outsAt0 m c t.val t.isLt).2.2.2.2.2.1
    | ⟨23, _⟩ => (outsAt0 m c t.val t.isLt).2.2.2.2.2.2.1
    | ⟨24, _⟩ => (outsAt0 m c t.val t.isLt).2.2.2.2.2.2.2.1
    | ⟨25, _⟩ => (outsAt0 m c t.val t.isLt).2.2.2.2.2.2.2.2.1
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem after0_19 (c : Dev nD) (t : Fin cfg0.N) : (dats m 0 c).after 19 t = (outsAt0 m c t.val t.isLt).2.2.1 := by dsimp only [dats]
theorem after0_20 (c : Dev nD) (t : Fin cfg0.N) : (dats m 0 c).after 20 t = (outsAt0 m c t.val t.isLt).2.2.2.1 := by dsimp only [dats]
theorem after0_21 (c : Dev nD) (t : Fin cfg0.N) : (dats m 0 c).after 21 t = (outsAt0 m c t.val t.isLt).2.2.2.2.1 := by dsimp only [dats]
theorem after0_22 (c : Dev nD) (t : Fin cfg0.N) : (dats m 0 c).after 22 t = (outsAt0 m c t.val t.isLt).2.2.2.2.2.1 := by dsimp only [dats]
theorem after0_23 (c : Dev nD) (t : Fin cfg0.N) : (dats m 0 c).after 23 t = (outsAt0 m c t.val t.isLt).2.2.2.2.2.2.1 := by dsimp only [dats]
theorem after0_24 (c : Dev nD) (t : Fin cfg0.N) : (dats m 0 c).after 24 t = (outsAt0 m c t.val t.isLt).2.2.2.2.2.2.2.1 := by dsimp only [dats]
theorem after0_25 (c : Dev nD) (t : Fin cfg0.N) : (dats m 0 c).after 25 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

end Cert.KernelIdeal.Gen

end
-- ==== Proof.BodySound.lean ====
module

public import proofs.«01_k».proof.Proof.Held

/-! # The body at one grid point

From the windows' blocks and the scratch before a point, the body runs to the blocks and scratch `outsAt0` names.
The text follows the generated frame. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 20 := lt_of_lt_of_eq t.isLt (show cfg0.N = 20 from N_0)
  by_cases h0 : t.val % 20 = 0
  · by_cases hz : t.val = 0
    · rw [PhiS_castSucc m c t, PhiS_zero m c _ _ hz, PhiA0_eq]
      rw [outsAt0_A m c t h0]
      unfold out0_A_17 out0_A_18 out0_A_19 out0_A_20 out0_A_21 out0_A_22 out0_A_23 out0_A_24 out0_A_25 sout0_A_0 sout0_A_1 sout0_A_2 sout0_A_8 sout0_A_9; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t)).2.2.2.2.2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩, ⟨%es2, HS2⟩, ⟨%fT3, HS3⟩, ⟨%fT4, HS4⟩, ⟨%fT5, HS5⟩, ⟨%fT6, HS6⟩, ⟨%fT7, HS7⟩, ⟨%es8, HS8⟩, ⟨%es9, HS9⟩⟩
      isplitl [HS0 HS1 HS2 HS3 HS4 HS5 HS6 HS7 HS8 HS9 Hg]
      · isplitl [HS0 HS1 HS2 HS3 HS4 HS5 HS6 HS7 HS8 HS9]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · unfold owns; iexists _; isplitr
            swap; · iexact HS8
            ipureintro; exact View.read_writes_of_cover _ _ _ _ _ (scover0_A_8 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS9
          ipureintro; exact View.read_writes_of_cover _ _ _ _ _ (scover0_A_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 20 := lt_of_lt_of_eq t.isLt (show cfg0.N = 20 from N_0); omega
  · by_cases hz : t.val = 0
    · exfalso; have hN : t.val < 20 := lt_of_lt_of_eq t.isLt (show cfg0.N = 20 from N_0); omega
    · rw [PhiS_castSucc m c t, PhiS_pos m c _ _ hz]
      rw [outsAt0_B m c t h0]
      unfold out0_B_17 out0_B_18 out0_B_19 out0_B_20 out0_B_21 out0_B_22 out0_B_23 out0_B_24 out0_B_25 sout0_B_0 sout0_B_1 sout0_B_2 sout0_B_8 sout0_B_9; (try dsimp only)
      iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) (iblk m c 15 t) (iblk m c 16 t) _ _ _ _ _).2.2.2.2.2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, HS0, HS1, HS2, ⟨%fT3, HS3⟩, ⟨%fT4, HS4⟩, ⟨%fT5, HS5⟩, ⟨%fT6, HS6⟩, ⟨%fT7, HS7⟩, HS8, HS9⟩
      isplitl [HS0 HS1 HS2 HS3 HS4 HS5 HS6 HS7 HS8 HS9 Hg]
      · isplitl [HS0 HS1 HS2 HS3 HS4 HS5 HS6 HS7 HS8 HS9]
        · isplitl [HS0]
          · iexact HS0
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexact HS8
          iexact HS9
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H25
      ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Gen

end
-- ==== Proof.KernelRun.lean ====
module

public import proofs.«01_k».proof.Proof.BodySound

/-! # The whole program's run, and its frame

`run_main` (what the arrays hold when the program has ended) and `frame` (it ends without fault, with its arguments
unchanged and every semaphore at zero). The text follows the generated frame, except that `body_obligation` is given
more steps: comparing the obligation's statement with the body's is long for a body of this size. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  exact Idealize.SL.BI.Entails.refl _

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    isplitl [HS7]
    · iexact HS7
    isplitl [HS8]
    · iexists _; iexact HS8
    iexists _; iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 20 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.Bands.lean ====
module

public import proofs.«01_k».proof.Proof.Gen.KernelIdeal.Skeleton

/-!
The kernel's block operations as functions of whole blocks.

Quantising a band of 128 rows by columns, widening a band of codes, spreading a table of stored
bytes: each is one definition here, for all the bands it is applied to.
-/

@[expose] public section

set_option maxRecDepth 16384

noncomputable section

namespace Cert.Bands
open Idealize.ShloMosaic Idealize.SL.Sem Cert.KernelIdeal Cert.KernelIdeal.Gen

variable {F : FTy → Type} [FloatOps F]

/-! ### Quantising a band of 128 rows by columns -/

/-- One step of the search for an exponent word, on a row of quotients. -/
def stepV (q : FVec F S1x256 .f32) (bit : BitVec 32) (f : IVec S1x256 32) : IVec S1x256 32 :=
  select (cmpf .ole (bitcastToFloat .f32 (ori f (broadcast S1x256 bit))) q) (ori f (broadcast S1x256 bit)) f

/-- The whole search. -/
def fieldV (q : FVec F S1x256 .f32) : IVec S1x256 32 :=
  stepV q 8388608#32 (stepV q 16777216#32 (stepV q 33554432#32 (stepV q 67108864#32 (stepV q 134217728#32
    (stepV q 268435456#32 (stepV q 536870912#32 (stepV q 1073741824#32 (broadcast S1x256 0#32))))))))

/-- The largest magnitude of each column of the band. -/
def maxV (v : Vec F S128x256 .bf16) : FVec F S1x256 .f32 :=
  extf .f32 (shapeCast S1x256 (multiReduction .maximumf [0] S256 (absf v) 0xFF80#16 reduces_S128x256_S256 (.inr rfl) rfl)
    shapeCasts_S256_S1x256) bitsLt_bf16_f32

/-- The quotient whose exponent is searched. -/
def quotV (v : Vec F S128x256 .bf16) : FVec F S1x256 .f32 :=
  mulf (select (cmpf .olt (maxV v) (broadcast S1x256 (Scalar.ofBits .f32 0x04DFFFFF#32)))
    (broadcast S1x256 (Scalar.ofBits .f32 0x43800000#32)) (maxV v)) (broadcast S1x256 (Scalar.ofBits .f32 0x3B124925#32))

/-- The exponent words of the band's columns. -/
def wordV (v : Vec F S128x256 .bf16) : IVec S1x256 32 :=
  addi (minsi (fieldV (quotV v)) (broadcast S1x256 (Scalar.subi 2139095040#32 75497472#32))) (broadcast S1x256 75497472#32)

/-- The inverse scales of the band's columns. -/
def invV (v : Vec F S128x256 .bf16) : FVec F S1x256 .f32 :=
  bitcastToFloat .f32 (subi (broadcast S1x256 2197815296#32) (wordV v))

/-- The scales of the band's columns. -/
def scaleV (v : Vec F S128x256 .bf16) : FVec F S1x256 .f32 :=
  bitcastToFloat .f32 (subi (wordV v) (broadcast S1x256 67108864#32))

/-- The band's codes. -/
def codesV (v : Vec F S128x256 .bf16) : FVec F S128x256 .fp8e4m3 :=
  truncf .fp8e4m3 (minimumf (broadcast S128x256 (Scalar.ofBits .bf16 0x43E0#16))
    (maximumf (broadcast S128x256 (Scalar.ofBits .bf16 0xC3E0#16))
      (mulf v (broadcastTo S128x256 (truncf .bf16 (invV v) bitsLt_bf16_f32) broadcasts_S1x256_S128x256)))) bitsLt_fp8e4m3_bf16

/-- The band's codes multiplied back by their scales. -/
def wideV (v : Vec F S128x256 .bf16) : FVec F S128x256 .bf16 :=
  shapeCast S128x256 (mulf (extf .bf16 (codesV v) bitsLt_fp8e4m3_bf16)
    (broadcastTo S128x256 (truncf .bf16 (scaleV v) bitsLt_bf16_f32) broadcasts_S1x256_S128x256)) shapeCasts_S128x256_S128x256

/-- The exponents of the band's scales. -/
def expV (v : Vec F S128x256 .bf16) : IVec S1x256 32 := shrui (fieldV (scaleV v)) (broadcast S1x256 23#32)

/-- The stored bytes of two bands that follow one another. -/
def bytesV (v v' : Vec F S128x256 .bf16) : IVec S1x2x256 8 :=
  shapeCast S1x2x256 (trunci 8 (concatenate S2x256 0 [⟨S1x256, expV v⟩, ⟨S1x256, expV v'⟩] concatenates_S1x256_S1x256_S2x256_d0)
    natLt_8_32) shapeCasts_S2x256_S1x2x256

/-! ### Widening codes by stored bytes -/

/-- A band of 128 rows times a row of words, each word holding the scale's sixteen bits twice. -/
def spreadV (w : IVec S1x1536 32) (v : Vec F S128x1536 .fp8e4m3) : FVec F S128x1536 .bf16 :=
  mulf (extf .bf16 v bitsLt_fp8e4m3_bf16) (bitcastToFloat .bf16 (bitcast S128x1536 16
    (broadcastTo S64x1536 (shapeCast S1x1536 w shapeCasts_S1x1536_S1x1536) broadcasts_S1x1536_S64x1536) bitcasts_S64x1536_w32_S128x1536_w16))

/-- One of the two rows of a window of stored bytes, as words. -/
def rowWords (off : Fin 2 → ℕ) (h : S2x1536.Slices off S1x1536) (s : Vec F S1x2x1536 .i8) : IVec S1x1536 32 :=
  let e := extractStridedSlice S1x1536 off (extui 32 (shapeCast S2x1536 s shapeCasts_S1x2x1536_S2x1536) natLt_8_32) h
  ori (shli e (broadcast S1x1536 7#32)) (shli e (broadcast S1x1536 23#32))

/-- A band of column codes widened. -/
def bandV (off : Fin 2 → ℕ) (h : S2x1536.Slices off S1x1536) (s : Vec F S1x2x1536 .i8) (v : Vec F S128x1536 .fp8e4m3) :
    FVec F S128x1536 .bf16 :=
  shapeCast S128x1536 (spreadV (rowWords off h s) v) shapeCasts_S128x1536_S128x1536

/-- A band of column codes widened and turned. -/
def bandT (off : Fin 2 → ℕ) (h : S2x1536.Slices off S1x1536) (s : Vec F S1x2x1536 .i8) (v : Vec F S128x1536 .fp8e4m3) :
    FVec F S1536x128 .bf16 :=
  shapeCast S1536x128 (transpose S1536x128 [1, 0] (spreadV (rowWords off h s) v) transposes_S128x1536_p1_0_S1536x128)
    shapeCasts_S1536x128_S1536x128

/-- A band of weight codes widened by a row of the spread table. -/
def weightV (w : Vec F S1x1x1536 .i32) (v : Vec F S128x1536 .fp8e4m3) : FVec F S128x1536 .bf16 :=
  shapeCast S128x1536 (spreadV (shapeCast S1x1536 w shapeCasts_S1x1x1536_S1x1536) v) shapeCasts_S128x1536_S128x1536

/-- A weight's table of stored bytes, as words. -/
def tableWords (s : Vec F S40x12 .i8) : IVec S40x12 32 :=
  let e := extui 32 s natLt_8_32
  ori (shli e (broadcast S40x12 7#32)) (shli e (broadcast S40x12 23#32))

/-- Two rows of one column of the table, each spread over 128 columns. -/
def tablePiece (o : Fin 2 → ℕ) (ho : S40x12.Slices o S40x1) (g : Fin 2 → ℕ) (hg : S40x128.Slices g S2x128) (s : Vec F S40x12 .i8) :
    IVec S1x2x128 32 :=
  shapeCast S1x2x128 (extractStridedSlice S2x128 g (broadcastTo S40x128
    (shapeCast S40x1 (extractStridedSlice S40x1 o (tableWords s) ho) shapeCasts_S40x1_S40x1) broadcasts_S40x1_S40x128) hg)
    shapeCasts_S2x128_S1x2x128

/-- One column of the second weight's table of stored bytes, picked by a masked sum. -/
def lane (at_ : BitVec 32) (s : Vec F S12x40 .i8) : IVec S12 32 :=
  multiReductionI .add [1] S12 (select (cmpi .eq (iota .tc S12x40 32 [1] iota_S12x40_d1_w32) (broadcast S12x40 at_))
    (extui 32 s natLt_8_32) (broadcast S12x40 0#32)) 0#32 reduces_S12x40_S12 rfl

/-- That column as words, spread over 128 columns. -/
def laneWords (l : IVec S12 32) : IVec S12x128 32 :=
  let e := shapeCast S12x1 l shapeCasts_S12_S12x1
  broadcastTo S12x128 (shapeCast S12x1 (ori (shli e (broadcast S12x1 7#32)) (shli e (broadcast S12x1 23#32))) shapeCasts_S12x1_S12x1)
    broadcasts_S12x1_S12x128

/-- A block of the second weight's codes widened. -/
def cellV (o : Fin 2 → ℕ) (ho : S12x128.Slices o S1x128) (w : IVec S12x128 32) (v : Vec F S128x128 .fp8e4m3) :
    FVec F S128x128 .bf16 :=
  shapeCast S128x128 (mulf (extf .bf16 v bitsLt_fp8e4m3_bf16) (bitcastToFloat .bf16 (bitcast S128x128 16
    (broadcastTo S64x128 (shapeCast S1x128 (extractStridedSlice S1x128 o w ho) shapeCasts_S1x128_S1x128) broadcasts_S1x128_S64x128)
    bitcasts_S64x128_w32_S128x128_w16))) shapeCasts_S128x128_S128x128

end Cert.Bands
-- ==== Proof.Scale.lean ====
module

public import Idealize.ShloMosaic.PureOps.Ideal

/-!
Powers of two as exponent words.

A scale of the kernel is a power of two, handled as the word that holds its exponent. This module
says which extended real such a word denotes, and that the bitwise search of an exponent word finds
the largest power of two that is at most a given number. Nothing here names a program.
-/

@[expose] public section

set_option maxRecDepth 16384

noncomputable section

namespace Scale
open Idealize.ShloMosaic

/-- The number whose exponent word is `E` (and whose fraction is zero): `0`, the powers `2^(E-127)`,
and `⊤` at the last exponent. -/
def pw (E : ℕ) : EReal := if E = 0 then 0 else if 255 ≤ E then ⊤ else (((2 : ℝ) ^ ((E : ℤ) - 127) : ℝ) : EReal)

/-- The word of exponent `E` and fraction zero. -/
def word (E : ℕ) : BitVec 32 := BitVec.ofNat 32 (E * 2 ^ 23)

/-- The sign, exponent field and fraction of a word of exponent `E`. -/
theorem word_parts : ∀ E : Fin 256, ((word E.val).extractLsb' 31 1 == 1#1) = false
    ∧ ((word E.val).extractLsb' 23 8).toNat = E.val ∧ ((word E.val).extractLsb' 0 23).toNat = 0 := by
  decide +kernel

/-- A word of exponent `E` denotes the number `pw E`. -/
theorem ofBits_word {E : ℕ} (h : E < 256) : Ideal.ofBits .f32 (word E) = pw E := by
  obtain ⟨h1, h2, h3⟩ := word_parts ⟨E, h⟩
  simp only at h1 h2 h3
  show Ideal.ieee 8 23 (word E) = pw E
  unfold Ideal.ieee pw
  simp only [show 8 + 23 = 31 from rfl, h1, h2, h3]
  by_cases h0 : E = 0
  · simp [h0]
  by_cases h255 : E = 255
  · simp [h255]
  · have : ¬ 255 ≤ E := by omega
    simp only [h0, this, if_false]
    rw [if_neg (by norm_num; omega)]
    refine congrArg _ (?_ : _ = (2 : ℝ) ^ ((E : ℤ) - 127))
    norm_num
    rw [show (8388608 : ℝ) = (2 : ℝ) ^ (23 : ℤ) by norm_num, ← zpow_add₀ (two_ne_zero)]
    congr 1
    ring

/-- The numbers grow strictly with the exponent. -/
theorem pw_lt {E E' : ℕ} (h : E < E') (h' : E' < 256) : pw E < pw E' := by
  unfold pw
  by_cases h0 : E = 0
  · have : E' ≠ 0 := by omega
    simp only [h0, this, if_true, if_false]
    split
    · exact EReal.zero_lt_top
    · exact_mod_cast (by positivity : (0 : ℝ) < 2 ^ ((E' : ℤ) - 127))
  · have h1 : E' ≠ 0 := by omega
    have h2 : ¬ 255 ≤ E := by omega
    simp only [h0, h1, h2, if_false]
    split
    · exact EReal.coe_lt_top _
    · exact EReal.coe_lt_coe_iff.mpr (zpow_lt_zpow_right₀ (by norm_num : (1 : ℝ) < 2) (by omega))

/-- The numbers grow with the exponent. -/
theorem pw_le {E E' : ℕ} (h : E ≤ E') (h' : E' < 256) : pw E ≤ pw E' := by
  rcases h.eq_or_lt with rfl | h
  · exact le_rfl
  · exact (pw_lt h h').le

/-- One step of the search: the bit is kept when the larger word still denotes at most `q`. -/
def step (bit : BitVec 32) (q : EReal) (f : BitVec 32) : BitVec 32 :=
  if Ideal.ofBits .f32 (f ||| bit) ≤ q then f ||| bit else f

/-- The whole search, from the exponent's highest bit to its lowest. -/
def field (q : EReal) : BitVec 32 :=
  step 8388608#32 q (step 16777216#32 q (step 33554432#32 q (step 67108864#32 q (step 134217728#32 q
    (step 268435456#32 q (step 536870912#32 q (step 1073741824#32 q 0#32)))))))

/-- What is known of the search before bit `k` of the exponent is tried. -/
structure At (q : EReal) (k E : ℕ) : Prop where
  dvd : E % 2 ^ k = 0
  top : E + 2 ^ k ≤ 256
  le : pw E ≤ q
  lt : E + 2 ^ k = 256 ∨ q < pw (E + 2 ^ k)

/-- Setting a clear bit of the exponent adds its weight. -/
theorem or_word : ∀ k : Fin 8, ∀ E : Fin 256, E.val % 2 ^ (k.val + 1) = 0 →
    word E.val ||| BitVec.ofNat 32 (2 ^ (23 + k.val)) = word (E.val + 2 ^ k.val) := by
  decide +kernel

/-- One step of the search keeps what is known of it, for one bit less. -/
theorem step_at {q : EReal} {k E : ℕ} (hk : k < 8) (h : At q (k + 1) E) :
    ∃ E', step (BitVec.ofNat 32 (2 ^ (23 + k))) q (word E) = word E' ∧ At q k E' := by
  have hp : 0 < 2 ^ k := by positivity
  have h2 : 2 ^ (k + 1) = 2 * 2 ^ k := by ring
  have ht := h.top
  have hd := h.dvd
  have hE : E % 2 ^ k = 0 := by
    rw [h2] at hd
    exact Nat.mod_eq_zero_of_dvd ((Dvd.intro_left 2 rfl).trans (Nat.dvd_of_mod_eq_zero hd))
  rw [step, or_word ⟨k, hk⟩ ⟨E, by omega⟩ h.dvd]
  show ∃ E', (if Ideal.ofBits .f32 (word (E + 2 ^ k)) ≤ q then word (E + 2 ^ k) else word E) = _ ∧ _
  rw [ofBits_word (by omega)]
  split
  case isTrue hle =>
    refine ⟨_, rfl, by rw [Nat.add_mod_right, hE], by omega, hle, ?_⟩
    rw [add_assoc, ← two_mul, ← h2]
    exact h.lt
  case isFalse hle =>
    exact ⟨_, rfl, hE, by omega, h.le, Or.inr (not_le.mp hle)⟩

/-- The search finds the exponent of the largest power of two that is at most `q`. -/
theorem field_at {q : EReal} (hq : 0 ≤ q) :
    ∃ E, E < 256 ∧ field q = word E ∧ pw E ≤ q ∧ (E = 255 ∨ q < pw (E + 1)) := by
  have h0 : At q 8 0 := ⟨rfl, le_rfl, by simpa [pw] using hq, Or.inl rfl⟩
  obtain ⟨e7, w7, h7⟩ := step_at (k := 7) (by norm_num) h0
  obtain ⟨e6, w6, h6⟩ := step_at (k := 6) (by norm_num) h7
  obtain ⟨e5, w5, h5⟩ := step_at (k := 5) (by norm_num) h6
  obtain ⟨e4, w4, h4⟩ := step_at (k := 4) (by norm_num) h5
  obtain ⟨e3, w3, h3⟩ := step_at (k := 3) (by norm_num) h4
  obtain ⟨e2, w2, h2⟩ := step_at (k := 2) (by norm_num) h3
  obtain ⟨e1, w1, h1⟩ := step_at (k := 1) (by norm_num) h2
  obtain ⟨e0, w0, h0⟩ := step_at (k := 0) (by norm_num) h1
  have ht := h0.top
  have hl := h0.lt
  norm_num at w7 w6 w5 w4 w3 w2 w1 w0 ht hl
  refine ⟨e0, by omega, ?_, h0.le, by rcases hl with hl | hl; exacts [Or.inl (by omega), Or.inr hl]⟩
  rw [field, show (0#32 : BitVec 32) = word 0 from rfl, w7, w6, w5, w4, w3, w2, w1, w0]

/-- The search finds `E` if `q` lies between the numbers of `E` and of the next exponent. -/
theorem field_eq {q : EReal} (hq : 0 ≤ q) {E : ℕ} (hE : E < 256) (h1 : pw E ≤ q) (h2 : E = 255 ∨ q < pw (E + 1)) :
    field q = word E := by
  obtain ⟨E', hE', w, h1', h2'⟩ := field_at hq
  have : E' = E := by
    rcases lt_trichotomy E' E with h | h | h
    · have := pw_le (show E' + 1 ≤ E by omega) hE
      rcases h2' with h2' | h2'
      · omega
      · exact absurd (h2'.trans_le this) (not_lt.mpr h1)
    · exact h
    · have := pw_le (show E + 1 ≤ E' by omega) hE'
      rcases h2 with h2 | h2
      · omega
      · exact absurd (h2.trans_le this) (not_lt.mpr h1')
  rw [w, this]

end Scale
-- ==== Proof.Exponent.lean ====
module

public import proofs.«01_k».proof.Proof.Scale

/-!
The exponent of a block's scale, computed in two ways.

The reference takes the logarithm of the block's largest magnitude over 448, rounds it down and adds
one. The kernel searches the exponent's bits. Over the extended reals both give the same exponent,
for every magnitude there is, and so the same scale, the same inverse and the same stored byte.
-/

@[expose] public section

set_option maxRecDepth 16384

noncomputable section

namespace Scale
open Idealize.ShloMosaic

/-- The magnitude below which a block counts as zero. -/
def tiny : EReal := Ideal.ofBits .f32 0x04DFFFFF#32
/-- `1 / 448`, as rounded to 32 bits. -/
def per448 : EReal := Ideal.ofBits .f32 0x3B124925#32
/-- The magnitude that stands for a zero block's in the kernel. -/
def unit : EReal := Ideal.ofBits .f32 0x43800000#32

/-- The zero block's limit as a real number. -/
theorem tiny_eq : tiny = ((14680063 * 2 ^ (-141 : ℤ) : ℝ) : EReal) := by
  simp [tiny, per448, unit, Ideal.ofBits, Ideal.ieee]

/-- The rounded `1 / 448` as a real number. -/
theorem per448_eq : per448 = ((9586981 * 2 ^ (-32 : ℤ) : ℝ) : EReal) := by
  simp [tiny, per448, unit, Ideal.ofBits, Ideal.ieee]

/-- A zero block's magnitude as a real number. -/
theorem unit_eq : unit = ((256 : ℝ) : EReal) := by
  simp [unit, Ideal.ofBits, Ideal.ieee]
  norm_num
  rw [← EReal.coe_mul]
  norm_num

/-- The kernel's quotient: the magnitude over 448, a zero block's magnitude replaced. -/
def quotient (a : EReal) : EReal := (if a < tiny then unit else a) * per448

/-- The kernel's word for the exponent: searched, held below the last binade, moved by nine binades. -/
def kernelWord (a : EReal) : BitVec 32 :=
  (if (field (quotient a)).slt 2063597568#32 then field (quotient a) else 2063597568#32) + 75497472#32

/-- The reference's exponent. -/
def refExp (a : EReal) : EReal :=
  if a < tiny then 0
  else min (Ideal.liftRound Int.floor (Ideal.div (Ideal.log (a * per448)) (Ideal.log ((2 : ℝ) : EReal))) + ((1 : ℝ) : EReal))
    ((120 : ℝ) : EReal)

/-- The word after the limit and the move by nine binades, for every exponent. -/
theorem clamp_word : ∀ E : Fin 256,
    (if (word E.val).slt 2063597568#32 then word E.val else 2063597568#32) + 75497472#32 = word (min E.val 246 + 9) := by
  decide +kernel

/-- The number of an exponent that is neither the first nor the last is a power of two. -/
theorem pw_coe {E : ℕ} (h0 : E ≠ 0) (h1 : E < 255) : pw E = (((2 : ℝ) ^ ((E : ℤ) - 127) : ℝ) : EReal) := by
  simp [pw, h0, not_le.mpr h1]

/-- The kernel's word, from the exponent that its search finds. -/
theorem kernelWord_eq {a : EReal} {E : ℕ} (hE : E < 256) (h : field (quotient a) = word E) :
    kernelWord a = word (min E 246 + 9) := by
  rw [kernelWord, h]
  exact clamp_word ⟨E, hE⟩

/-- The rounded-down binary logarithm of a real that lies in a known binade. -/
theorem floor_log {q : ℝ} {n : ℤ} (h1 : (2 : ℝ) ^ n ≤ q) (h2 : q < (2 : ℝ) ^ (n + 1)) :
    ⌊Real.log q / Real.log 2⌋ = n := by
  have hl : 0 < Real.log 2 := Real.log_pos (by norm_num)
  have hp : (0 : ℝ) < 2 ^ n := by positivity
  have hq : 0 < q := hp.trans_le h1
  rw [Int.floor_eq_iff]
  constructor
  · rw [le_div_iff₀ hl, ← Real.log_zpow]
    exact Real.log_le_log hp h1
  · rw [div_lt_iff₀ hl]
    have := Real.log_lt_log hq h2
    rw [Real.log_zpow] at this
    exact_mod_cast this

/-- A real not below a power of two has a rounded-down binary logarithm not below the exponent. -/
theorem le_floor_log {q : ℝ} {n : ℤ} (h1 : (2 : ℝ) ^ n ≤ q) : n ≤ ⌊Real.log q / Real.log 2⌋ := by
  have hl : 0 < Real.log 2 := Real.log_pos (by norm_num)
  rw [Int.le_floor, le_div_iff₀ hl, ← Real.log_zpow]
  exact Real.log_le_log (by positivity) h1

/-- The reference's exponent of a real magnitude that does not count as zero. -/
theorem refExp_real {r : ℝ} (hr : ¬ ((r : EReal) < tiny)) (hq : 0 < r * (9586981 * 2 ^ (-32 : ℤ))) :
    refExp r = ((min (⌊Real.log (r * (9586981 * 2 ^ (-32 : ℤ))) / Real.log 2⌋ + 1) 120 : ℤ) : ℝ) := by
  have hl : 0 < Real.log 2 := Real.log_pos (by norm_num)
  rw [refExp, if_neg hr, per448_eq, ← EReal.coe_mul, Ideal.log_coe, if_neg (not_le.mpr hq), Ideal.log_coe,
    if_neg (by norm_num), Ideal.div_coe hl.ne', ← EReal.coe_mul, Ideal.liftRound_coe, ← EReal.coe_add, mul_one_div]
  push_cast
  exact (EReal.coe_strictMono.monotone.map_min).symm

/-- Both sides have the same exponent, and it lies in the range a scale can hold. -/
theorem agree {a : EReal} (ha : 0 ≤ a) :
    ∃ e : ℤ, -126 ≤ e ∧ e ≤ 120 ∧ kernelWord a = word (e + 135).toNat ∧ refExp a = ((e : ℝ) : EReal) := by
  by_cases ht : a < tiny
  · refine ⟨0, by norm_num, by norm_num, ?_, by simp [refExp, ht]⟩
    have hq : quotient a = ((256 * (9586981 * 2 ^ (-32 : ℤ)) : ℝ) : EReal) := by
      rw [quotient, if_pos ht, unit_eq, per448_eq, ← EReal.coe_mul]
    rw [kernelWord_eq (E := 126) (by norm_num)]
    · rfl
    · rw [hq]
      apply field_eq _ (by norm_num)
      · rw [pw_coe (by norm_num) (by norm_num)]
        exact EReal.coe_le_coe_iff.mpr (by norm_num)
      · right
        rw [pw_coe (by norm_num) (by norm_num)]
        exact EReal.coe_lt_coe_iff.mpr (by norm_num)
      · exact EReal.coe_nonneg.mpr (by positivity)
  induction a using EReal.rec with
  | bot => simp at ha
  | top =>
    have hc : (0 : EReal) < per448 := by rw [per448_eq]; exact EReal.coe_pos.mpr (by positivity)
    have hq : quotient ⊤ = ⊤ := by rw [quotient, if_neg ht, EReal.top_mul_of_pos hc]
    refine ⟨120, by norm_num, by norm_num, ?_, ?_⟩
    · rw [kernelWord_eq (E := 255) (by norm_num)]
      · rfl
      · rw [hq]
        exact field_eq le_top (by norm_num) le_top (Or.inl rfl)
    · have hl : 0 < Real.log 2 := Real.log_pos (by norm_num)
      rw [refExp, if_neg ht, EReal.top_mul_of_pos hc, Ideal.log_top, Ideal.log_coe, if_neg (by norm_num),
        Ideal.div_coe hl.ne', EReal.top_mul_of_pos (EReal.coe_pos.mpr (by positivity)), Ideal.liftRound_top,
        EReal.top_add_coe, min_eq_right le_top]
      norm_num
  | coe r =>
    have htr : 14680063 * 2 ^ (-141 : ℤ) ≤ r := by
      rw [tiny_eq, EReal.coe_lt_coe_iff] at ht
      exact not_lt.mp ht
    set q : ℝ := r * (9586981 * 2 ^ (-32 : ℤ)) with hqd
    have hql : (2 : ℝ) ^ (-127 : ℤ) ≤ q := by
      have : (14680063 * 2 ^ (-141 : ℤ)) * (9586981 * 2 ^ (-32 : ℤ)) ≤ q := by
        rw [hqd]; gcongr
      refine le_trans ?_ this
      norm_num
    have hq0 : 0 < q := lt_of_lt_of_le (by positivity) hql
    have hq : quotient r = ((q : ℝ) : EReal) := by rw [quotient, if_neg ht, per448_eq, ← EReal.coe_mul]
    obtain ⟨E, hE, hf, h1, h2⟩ := field_at (q := quotient r) (by rw [hq]; exact EReal.coe_nonneg.mpr hq0.le)
    rw [kernelWord_eq hE hf, refExp_real ht hq0, ← hqd]
    rw [hq] at h1 h2
    have hE255 : E ≠ 255 := by
      rintro rfl
      simp [pw] at h1
    have h2 := h2.resolve_left hE255
    by_cases hE0 : E = 0
    · subst hE0
      rw [pw_coe (by norm_num) (by norm_num), EReal.coe_lt_coe_iff] at h2
      refine ⟨-126, by norm_num, by norm_num, congrArg word (by decide), ?_⟩
      rw [floor_log hql (by norm_num at h2 ⊢; exact h2)]
      norm_num
    · have h1 : (2 : ℝ) ^ ((E : ℤ) - 127) ≤ q := by
        rw [pw_coe hE0 (by omega)] at h1
        exact EReal.coe_le_coe_iff.mp h1
      by_cases hE2 : E + 1 < 255
      · have h2 : q < (2 : ℝ) ^ (((E + 1 : ℕ) : ℤ) - 127) := by
          rw [pw_coe (by omega) hE2] at h2
          exact EReal.coe_lt_coe_iff.mp h2
        rw [floor_log h1 (by convert h2 using 2; push_cast; ring)]
        refine ⟨min ((E : ℤ) - 127 + 1) 120, by omega, by omega, ?_, rfl⟩
        congr 1
        omega
      · refine ⟨120, by norm_num, by norm_num, ?_, ?_⟩
        · congr 1
          omega
        · have := le_floor_log h1
          rw [min_eq_right (by omega)]
/-! ### The scale, its inverse and the stored byte -/

/-- The kernel's inverse scale. -/
def kernelInv (a : EReal) : EReal := Ideal.ofBits .f32 (2197815296#32 - kernelWord a)
/-- The kernel's scale. -/
def kernelScale (a : EReal) : EReal := Ideal.ofBits .f32 (kernelWord a - 67108864#32)
/-- The byte that the kernel stores. -/
def kernelByte (a : EReal) : BitVec 8 := (field (kernelScale a) >>> 23).setWidth 8

/-- The reference's inverse scale. -/
def refInv (a : EReal) : EReal := Ideal.exp2 (0 - refExp a)
/-- The reference's scale. -/
def refScale (a : EReal) : EReal := Ideal.exp2 (refExp a)
/-- The byte that the reference stores. -/
def refByte (a : EReal) : BitVec 8 := (Ideal.fptosi 32 (refExp a + ((127 : ℝ) : EReal))).setWidth 8

/-- The two differences of words that the kernel forms, as words. -/
theorem word_sub : ∀ k : Fin 256, 9 ≤ k.val →
    2197815296#32 - word k.val = word (262 - k.val) ∧ word k.val - 67108864#32 = word (k.val - 8) := by
  decide +kernel

/-- The exponent of a word, as a byte. -/
theorem word_byte : ∀ k : Fin 256, (word k.val >>> 23).setWidth 8 = BitVec.ofNat 8 k.val := by
  decide +kernel

/-- A number below 256 converted to a byte. -/
theorem ofInt_byte : ∀ k : Fin 256, (BitVec.ofInt 32 (k.val : ℤ)).setWidth 8 = BitVec.ofNat 8 k.val := by
  decide +kernel

/-- The number of a biased exponent is the power of two. -/
theorem pw_exp {e : ℤ} (h1 : -126 ≤ e) (h2 : e ≤ 127) : pw (e + 127).toNat = (((2 : ℝ) ^ e : ℝ) : EReal) := by
  rw [pw_coe (by omega) (by omega)]
  congr 2
  omega

/-- The kernel's inverse scale is the reference's. -/
theorem inv_eq {a : EReal} (ha : 0 ≤ a) : kernelInv a = refInv a := by
  obtain ⟨e, h1, h2, hk, hr⟩ := agree ha
  have hw : 2197815296#32 - word (e + 135).toNat = word (262 - (e + 135).toNat) :=
    (word_sub ⟨(e + 135).toNat, by omega⟩ (by show 9 ≤ (e + 135).toNat; omega)).1
  rw [kernelInv, refInv, hk, hr, hw, ofBits_word (by omega), show 262 - (e + 135).toNat = (-e + 127).toNat by omega,
    pw_exp (by omega) (by omega), zero_sub, ← EReal.coe_neg, Ideal.exp2_coe]
  congr 1
  show _ = (2 : ℝ) ^ (-(e : ℝ))
  rw [← Real.rpow_intCast]
  push_cast
  rfl

/-- The kernel's scale is the power of two of the common exponent. -/
theorem scale_word {a : EReal} {e : ℤ} (h1 : -126 ≤ e) (h2 : e ≤ 120) (hk : kernelWord a = word (e + 135).toNat) :
    kernelScale a = (((2 : ℝ) ^ e : ℝ) : EReal) := by
  have hw : word (e + 135).toNat - 67108864#32 = word ((e + 135).toNat - 8) :=
    (word_sub ⟨(e + 135).toNat, by omega⟩ (by show 9 ≤ (e + 135).toNat; omega)).2
  rw [kernelScale, hk, hw, ofBits_word (by omega), show (e + 135).toNat - 8 = (e + 127).toNat by omega,
    pw_exp h1 (by omega)]

/-- The kernel's scale is the reference's. -/
theorem scale_eq {a : EReal} (ha : 0 ≤ a) : kernelScale a = refScale a := by
  obtain ⟨e, h1, h2, hk, hr⟩ := agree ha
  rw [scale_word h1 h2 hk, refScale, hr, Ideal.exp2_coe]
  congr 1
  exact (Real.rpow_intCast _ _).symm

/-- The kernel's byte is the reference's. -/
theorem byte_eq {a : EReal} (ha : 0 ≤ a) : kernelByte a = refByte a := by
  obtain ⟨e, h1, h2, hk, hr⟩ := agree ha
  have hf : field (kernelScale a) = word (e + 127).toNat := by
    rw [scale_word h1 h2 hk]
    refine field_eq (EReal.coe_nonneg.mpr (by positivity)) (by omega) (pw_exp h1 (by omega)).le (Or.inr ?_)
    rw [show (e + 127).toNat + 1 = (e + 1 + 127).toNat by omega, pw_exp (by omega) (by omega)]
    exact EReal.coe_lt_coe_iff.mpr (zpow_lt_zpow_right₀ (by norm_num) (by omega))
  have hi : Ideal.fptosi 32 (refExp a + ((127 : ℝ) : EReal)) = BitVec.ofInt 32 (((e + 127).toNat : ℕ) : ℤ) := by
    have h0 : (((e + 127).toNat : ℕ) : ℤ) = e + 127 := by omega
    have hc : ((e : ℝ) + 127) = ((e + 127 : ℤ) : ℝ) := by push_cast; rfl
    have hn : (0 : ℝ) ≤ ((e + 127 : ℤ) : ℝ) := by exact_mod_cast (by omega : (0 : ℤ) ≤ e + 127)
    rw [hr, ← EReal.coe_add, hc, Ideal.fptosi, Ideal.toIntClamped_coe, if_pos hn, Int.floor_intCast, h0]
    congr 1
    norm_num
    omega
  rw [kernelByte, refByte, hf, hi]
  exact (word_byte ⟨(e + 127).toNat, by omega⟩).trans (ofInt_byte ⟨(e + 127).toNat, by omega⟩).symm

/-! ### A stored byte read back as a scale -/

/-- The kernel's word of a stored byte: its exponent in both halves. -/
def byteWord (b : BitVec 8) : BitVec 32 := (b.setWidth 32 <<< 7) ||| (b.setWidth 32 <<< 23)

/-- What a stored byte denotes. -/
def byteVal (b : BitVec 8) : EReal := pw b.toNat

/-- Both halves of the word of a byte hold the byte as an exponent field. -/
theorem half_parts : ∀ b : BitVec 8, (byteWord b).extractLsb' 0 16 = BitVec.ofNat 16 (b.toNat * 128)
    ∧ (byteWord b).extractLsb' 16 16 = BitVec.ofNat 16 (b.toNat * 128) := by
  decide +kernel

/-- The sign, exponent field and fraction of such a half. -/
theorem half_fields : ∀ b : BitVec 8, ((BitVec.ofNat 16 (b.toNat * 128)).extractLsb' 15 1 == 1#1) = false
    ∧ ((BitVec.ofNat 16 (b.toNat * 128)).extractLsb' 7 8).toNat = b.toNat
    ∧ ((BitVec.ofNat 16 (b.toNat * 128)).extractLsb' 0 7).toNat = 0 := by
  decide +kernel

/-- Such a half denotes the byte's scale. -/
theorem ofBits_half (b : BitVec 8) : Ideal.ofBits .bf16 (BitVec.ofNat 16 (b.toNat * 128)) = byteVal b := by
  obtain ⟨h1, h2, h3⟩ := half_fields b
  have hb : b.toNat < 256 := b.isLt
  show Ideal.ieee 8 7 _ = pw _
  unfold Ideal.ieee pw
  simp only [show 8 + 7 = 15 from rfl, h1, h2, h3]
  by_cases h0 : b.toNat = 0
  · simp [h0]
  by_cases h255 : b.toNat = 255
  · simp [h255]
  · have : ¬ 255 ≤ b.toNat := by omega
    simp only [h0, this, if_false]
    rw [if_neg (by norm_num; omega)]
    refine congrArg _ (?_ : _ = (2 : ℝ) ^ ((b.toNat : ℤ) - 127))
    norm_num
    rw [show (128 : ℝ) = (2 : ℝ) ^ (7 : ℤ) by norm_num, ← zpow_add₀ (two_ne_zero)]
    congr 1
    ring

/-- The reference's reading of a stored byte. -/
def refByteVal (b : BitVec 8) : EReal :=
  if b.setWidth 32 = 255#32 then ⊤
  else if b.setWidth 32 = 0#32 then 0
  else Ideal.exp2 ((((b.setWidth 32).toInt : ℝ) : EReal) - ((127 : ℝ) : EReal))

/-- A widened byte is 255 or 0 where the byte is, and has its value. -/
theorem byte_word : ∀ b : BitVec 8, (b.setWidth 32 = 255#32 ↔ b.toNat = 255) ∧ (b.setWidth 32 = 0#32 ↔ b.toNat = 0)
    ∧ (b.setWidth 32).toInt = (b.toNat : ℤ) := by
  decide +kernel

/-- The reference's reading of a byte is the byte's scale. -/
theorem refByteVal_eq (b : BitVec 8) : refByteVal b = byteVal b := by
  obtain ⟨h1, h2, h3⟩ := byte_word b
  have hb : b.toNat < 256 := b.isLt
  simp only [refByteVal, byteVal, h1, h2, h3]
  by_cases h255 : b.toNat = 255
  · simp [h255, pw]
  by_cases h0 : b.toNat = 0
  · simp [h0, pw]
  rw [if_neg h255, if_neg h0, pw_coe h0 (by omega), ← EReal.coe_sub, Ideal.exp2_coe]
  congr 1
  show (2 : ℝ) ^ (((b.toNat : ℤ) : ℝ) - 127) = _
  rw [← Real.rpow_intCast]
  push_cast
  rfl

end Scale
-- ==== Proof.Quant.lean ====
module

public import proofs.«01_k».proof.Proof.Exponent
public import Idealize.ShloMosaic.Lib.Pointwise

/-!
One block of 128 values, quantised: the mathematics both programs are read into.
-/

@[expose] public section

set_option maxRecDepth 16384

noncomputable section

namespace Scale
open Idealize.ShloMosaic

/-- The largest magnitude of a block. -/
def amax (x : Fin 128 → EReal) : EReal := Finset.univ.fold max ⊥ fun r => max (x r) (-(x r))

/-- The largest magnitude is not negative. -/
theorem amax_nonneg (x : Fin 128 → EReal) : 0 ≤ amax x := by
  rw [amax, Finset.le_fold_max]
  refine .inr ⟨0, Finset.mem_univ _, ?_⟩
  rcases le_total 0 (x 0) with h | h
  · exact le_max_of_le_left h
  · exact le_max_of_le_right (by simpa using EReal.neg_le_neg_iff.mpr h)

/-- A value held between −448 and 448. -/
def clip (x : EReal) : EReal := min (Ideal.ofBits .f32 0x43E00000#32) (max (Ideal.ofBits .f32 0xC3E00000#32) x)

/-- A block's code at one of its places. -/
def code (x : Fin 128 → EReal) (r : Fin 128) : EReal := clip (x r * refInv (amax x))
/-- A block's value at one of its places after quantising and widening. -/
def wide (x : Fin 128 → EReal) (r : Fin 128) : EReal := code x r * refScale (amax x)
/-- A block's stored byte. -/
def byte (x : Fin 128 → EReal) : BitVec 8 := refByte (amax x)

/-- The upper limit of the clip is the same number in both formats. -/
theorem top_bf16 : Ideal.ofBits .bf16 0x43E0#16 = Ideal.ofBits .f32 0x43E00000#32 := by
  simp [Ideal.ofBits, Ideal.ieee]
  norm_num
  rw [← EReal.coe_mul, ← EReal.coe_mul]
  norm_num

/-- The lower limit of the clip is the same number in both formats. -/
theorem bot_bf16 : Ideal.ofBits .bf16 0xC3E0#16 = Ideal.ofBits .f32 0xC3E00000#32 := by
  simp [Ideal.ofBits, Ideal.ieee]
  norm_num
  rw [← EReal.coe_mul, ← EReal.coe_mul]
  norm_num

/-- The start of a maximum in 16 bits. -/
theorem inf_bf16 : Ideal.ofBits .bf16 0xFF80#16 = ⊥ := by simp [Ideal.ofBits, Ideal.ieee]
/-- The start of a maximum in 32 bits. -/
theorem inf_f32 : Ideal.ofBits .f32 0xFF800000#32 = ⊥ := by simp [Ideal.ofBits, Ideal.ieee]
/-- The constant 2. -/
theorem two_f32 : Ideal.ofBits .f32 0x40000000#32 = ((2 : ℝ) : EReal) := by
  simp [Ideal.ofBits, Ideal.ieee]
  rw [← EReal.coe_mul]
  norm_num

/-- The constant 1. -/
theorem one_f32 : Ideal.ofBits .f32 0x3F800000#32 = ((1 : ℝ) : EReal) := by
  simp [Ideal.ofBits, Ideal.ieee]
  rw [← EReal.coe_mul, ← EReal.coe_one]
  norm_num

/-- The constant 127. -/
theorem bias_f32 : Ideal.ofBits .f32 0x42FE0000#32 = ((127 : ℝ) : EReal) := by
  simp [Ideal.ofBits, Ideal.ieee]
  rw [← EReal.coe_mul]
  norm_num

/-- The constant 120. -/
theorem cap_f32 : Ideal.ofBits .f32 0x42F00000#32 = ((120 : ℝ) : EReal) := by
  simp [Ideal.ofBits, Ideal.ieee]
  rw [← EReal.coe_mul]
  norm_num

end Scale
-- ==== Proof.BandValues.lean ====
module

public import proofs.«01_k».proof.Proof.Bands
public import proofs.«01_k».proof.Proof.Quant
public import Idealize.ShloMosaic.PureOps.Ideal.Laws
public import Idealize.ShloMosaic.Lib.Pointwise
public import Idealize.ShloMosaic.Lib.BitcastPair

/-!
The kernel's block operations read at an index, over the extended reals.
-/

@[expose] public section

set_option maxRecDepth 16384

noncomputable section

namespace Cert.Bands
open Idealize.ShloMosaic Idealize.SL.Sem Cert.KernelIdeal Cert.KernelIdeal.Gen

/-- A step of the search, at one place. -/
theorem stepV_apply (q : FVec Ideal S1x256 .f32) (bit : BitVec 32) (f : IVec S1x256 32) (i : S1x256.Idx) :
    stepV q bit f i = Scale.step bit (q i) (f i) := by
  pointwise [stepV]
  rfl

/-- The search, at one place. -/
theorem fieldV_apply (q : FVec Ideal S1x256 .f32) (i : S1x256.Idx) : fieldV q i = Scale.field (q i) := by
  simp only [fieldV, stepV_apply]
  rfl

/-- Column `j` of a band. -/
abbrev col (v : Vec Ideal S128x256 .bf16) (j : Fin 256) : Fin 128 → EReal := fun r => v (ix2 r j)

/-- The largest magnitude of a band's column. -/
theorem maxV_apply (v : Vec Ideal S128x256 .bf16) (j : Fin 256) :
    maxV v (ix2 0 j) = Scale.amax (col v j) := by
  pointwise [maxV]
  rw [Scale.inf_bf16]
  rfl

/-- The quotient of a band's column. -/
theorem quotV_apply (v : Vec Ideal S128x256 .bf16) (j : Fin 256) :
    quotV v (ix2 0 j) = Scale.quotient (Scale.amax (col v j)) := by
  rw [← maxV_apply]
  generalize h : maxV v = m
  pointwise [quotV]
  rw [h]
  rfl

/-- The exponent word of a band's column. -/
theorem wordV_apply (v : Vec Ideal S128x256 .bf16) (j : Fin 256) :
    wordV v (ix2 0 j) = Scale.kernelWord (Scale.amax (col v j)) := by
  have h := quotV_apply v j
  have e := fieldV_apply (quotV v) (ix2 0 j)
  rw [h] at e
  generalize hq : quotV v = q at *
  generalize hf : fieldV q = f at *
  simp only [wordV, hq, hf]
  pointwise
  rw [e]
  rfl

/-- The inverse scale of a band's column is the reference's. -/
theorem invV_apply (v : Vec Ideal S128x256 .bf16) (j : Fin 256) :
    invV v (ix2 0 j) = Scale.refInv (Scale.amax (col v j)) := by
  rw [← Scale.inv_eq (Scale.amax_nonneg _), Scale.kernelInv, ← wordV_apply]
  generalize hw : wordV v = w
  simp only [invV, hw]
  pointwise
  rfl

/-- The scale of a band's column is the reference's. -/
theorem scaleV_apply (v : Vec Ideal S128x256 .bf16) (j : Fin 256) :
    scaleV v (ix2 0 j) = Scale.refScale (Scale.amax (col v j)) := by
  rw [← Scale.scale_eq (Scale.amax_nonneg _), Scale.kernelScale, ← wordV_apply]
  generalize hw : wordV v = w
  simp only [scaleV, hw]
  pointwise
  rfl

/-- A band's codes are the codes of its columns. -/
theorem codesV_apply (v : Vec Ideal S128x256 .bf16) (r : Fin 128) (j : Fin 256) :
    codesV v (ix2 r j) = Scale.code (col v j) r := by
  have h := invV_apply v j
  generalize hw : invV v = w at *
  simp only [codesV, hw]
  pointwise
  rw [h, Scale.code, Scale.clip, ← Scale.top_bf16, ← Scale.bot_bf16]

/-- A band's widened values are those of its columns. -/
theorem wideV_apply (v : Vec Ideal S128x256 .bf16) (r : Fin 128) (j : Fin 256) :
    wideV v (ix2 r j) = Scale.wide (col v j) r := by
  have h := scaleV_apply v j
  have h' := codesV_apply v r j
  generalize hw : scaleV v = w at *
  generalize hw' : codesV v = w' at *
  simp only [wideV, hw, hw']
  pointwise
  rw [h, h']
  rfl

/-- The byte of a band's column. -/
theorem expV_apply (v : Vec Ideal S128x256 .bf16) (j : Fin 256) :
    (expV v (ix2 0 j)).setWidth 8 = Scale.byte (col v j) := by
  have e := fieldV_apply (scaleV v) (ix2 0 j)
  rw [scaleV_apply, ← Scale.scale_eq (Scale.amax_nonneg _)] at e
  rw [Scale.byte, ← Scale.byte_eq (Scale.amax_nonneg _), Scale.kernelByte, ← e]
  rfl

/-- The two rows of bytes of two bands are the bytes of their columns. -/
theorem bytesV_apply (v v' : Vec Ideal S128x256 .bf16) (s : Fin 2) (j : Fin 256) :
    bytesV v v' (ix3 0 s j) = Scale.byte (col (if s = 0 then v else v') j) := by
  have h := expV_apply v j
  have h' := expV_apply v' j
  pointwise [bytesV]
  by_cases c : s = 0
  · subst c
    exact h
  · obtain rfl : s = 1 := by omega
    exact h'

end Cert.Bands
-- ==== Proof.WidenValues.lean ====
module

public import proofs.«01_k».proof.Proof.Bands
public import proofs.«01_k».proof.Proof.Quant
public import Idealize.ShloMosaic.PureOps.Ideal.Laws
public import Idealize.ShloMosaic.Lib.Pointwise
public import Idealize.ShloMosaic.Lib.BitcastPair
public import Idealize.ShloMosaic.Lib.WordSum

/-!
The kernel's widening of codes read at an index, over the extended reals.
-/

@[expose] public section

set_option maxRecDepth 16384

noncomputable section

namespace Cert.Bands
open Idealize.ShloMosaic Idealize.SL.Sem Cert.KernelIdeal Cert.KernelIdeal.Gen

/-- Either half of a word made of a stored byte is the byte's scale. -/
theorem half_word (b : BitVec 8) (r : ℕ) :
    Ideal.ofBits .bf16 ((Scale.byteWord b).extractLsb' (16 * (r % 2)) 16) = Scale.byteVal b := by
  rcases Nat.mod_two_eq_zero_or_one r with h | h <;> rw [h]
  · rw [show 16 * 0 = 0 from rfl, (Scale.half_parts b).1, Scale.ofBits_half]
  · rw [show 16 * 1 = 16 from rfl, (Scale.half_parts b).2, Scale.ofBits_half]

/-- A row of words spread over 64 rows, at one place. -/
theorem broadcast_wide (x : IVec S1x1536 32) (i : S64x1536.Idx) (j : Fin 1536) (h : (i 1).val = j.val) :
    broadcastTo S64x1536 x broadcasts_S1x1536_S64x1536 i = x (ix2 0 j) := by
  idx_vars i
  obtain rfl : i1 = j := Fin.ext h
  pointwise

/-- A row of 128 words spread over 64 rows, at one place. -/
theorem broadcast_narrow (x : IVec S1x128 32) (i : S64x128.Idx) (j : Fin 128) (h : (i 1).val = j.val) :
    broadcastTo S64x128 x broadcasts_S1x128_S64x128 i = x (ix2 0 j) := by
  idx_vars i
  obtain rfl : i1 = j := Fin.ext h
  pointwise

/-- A sum of words all of which but one are zero. -/
theorem fold_single {n : ℕ} (f : Fin n → BitVec 32) (k : Fin n) (h : ∀ x, x ≠ k → f x = 0#32) :
    Finset.fold IntOp.addi 0#32 f Finset.univ = f k := by
  have z : ∀ s : Finset (Fin n), (∀ x ∈ s, f x = 0#32) → Finset.fold IntOp.addi 0#32 f s = 0#32 := by
    intro s
    induction s using Finset.induction_on with
    | empty => intro _; rfl
    | insert a s ha ih =>
      intro hs
      rw [Finset.fold_insert ha, ih fun x hx => hs x (Finset.mem_insert_of_mem hx), hs a (Finset.mem_insert_self a s)]
      rfl
  rw [← Finset.insert_erase (Finset.mem_univ k), Finset.fold_insert (Finset.notMem_erase k _),
    z _ fun x hx => h x (Finset.ne_of_mem_erase hx)]
  exact BitVec.add_zero _

/-- A band widened by a row of words: each code times the scale of its column's byte. -/
theorem spreadV_apply (w : IVec S1x1536 32) (v : Vec Ideal S128x1536 .fp8e4m3) (r : Fin 128) (j : Fin 1536) (b : BitVec 8)
    (h : w (ix2 0 j) = Scale.byteWord b) : spreadV w v (ix2 r j) = v (ix2 r j) * Scale.byteVal b := by
  rw [← half_word b r.val, ← h]
  pointwise [spreadV]
  rw [bitcast_32_16]
  have e : S128x1536.row (ix2 r j) = r.val := rfl
  rw [broadcast_wide _ _ j (Shape.Bitcasts.srcIdx_other _ _ _ _ 1 (by decide)), e]

/-- A row of words, made from one row of a pair of bytes. -/
theorem rowWords_apply (k : Fin 2) (h : S2x1536.Slices ![k.val, 0] S1x1536) (s : Vec Ideal S1x2x1536 .i8) (j : Fin 1536) :
    rowWords ![k.val, 0] h s (ix2 0 j) = Scale.byteWord (s (ix3 0 k j)) := by
  pointwise [rowWords]
  rfl

/-- A piece of the expanded table, at one place. -/
theorem tablePiece_apply (f : Fin 12) (ho : S40x12.Slices ![0, f.val] S40x1) (g : Fin 20) (hg : S40x128.Slices ![2 * g.val, 0] S2x128)
    (s : Vec Ideal S40x12 .i8) (k : Fin 2) (j : Fin 128) :
    tablePiece ![0, f.val] ho ![2 * g.val, 0] hg s (ix3 0 k j) = Scale.byteWord (s (ix2 ⟨2 * g.val + k.val, by omega⟩ f)) := by
  pointwise [tablePiece, tableWords]
  rfl

/-- One column of the bytes of the second weight, picked by a masked sum. -/
theorem lane_apply (k : Fin 40) (s : Vec Ideal S12x40 .i8) (f : Fin 12) :
    lane (BitVec.ofNat 32 k.val) s (ix1 f) = (s (ix2 f k)).setWidth 32 := by
  pointwise [lane]
  rw [fold_single _ k]
  · simp [IntOp.cmpi, Scalar.select]
  · intro x hx
    have : ¬ BitVec.ofNat 32 x.val = BitVec.ofNat 32 k.val := by
      intro h
      have h := congrArg BitVec.toNat h
      simp only [BitVec.toNat_ofNat] at h
      have := x.isLt; have := k.isLt
      exact hx (Fin.ext (by omega))
    have : (BitVec.ofNat 32 x.val == BitVec.ofNat 32 k.val) = false := by simpa using this
    simp [IntOp.cmpi, Scalar.select, this]

/-- The words made from such a column. -/
theorem laneWords_apply (l : IVec S12 32) (f : Fin 12) (j : Fin 128) (b : BitVec 8) (h : l (ix1 f) = b.setWidth 32) :
    laneWords l (ix2 f j) = Scale.byteWord b := by
  pointwise [laneWords]
  rw [h]
  rfl

/-- A cell of the second weight widened: each code times its byte's scale. -/
theorem cellV_apply (f : Fin 12) (ho : S12x128.Slices ![f.val, 0] S1x128) (w : IVec S12x128 32) (v : Vec Ideal S128x128 .fp8e4m3)
    (r : Fin 128) (j : Fin 128) (b : BitVec 8) (h : w (ix2 f j) = Scale.byteWord b) :
    cellV ![f.val, 0] ho w v (ix2 r j) = v (ix2 r j) * Scale.byteVal b := by
  rw [← half_word b r.val, ← h]
  pointwise [cellV]
  rw [bitcast_32_16]
  have e : S128x128.row (ix2 r j) = r.val := rfl
  rw [broadcast_narrow _ _ j (Shape.Bitcasts.srcIdx_other _ _ _ _ 1 (by decide)), e]
  pointwise

/-- A band of column codes widened: each code times its byte's scale. -/
theorem bandV_apply (k : Fin 2) (h : S2x1536.Slices ![k.val, 0] S1x1536) (s : Vec Ideal S1x2x1536 .i8)
    (v : Vec Ideal S128x1536 .fp8e4m3) (r : Fin 128) (j : Fin 1536) :
    bandV ![k.val, 0] h s v (ix2 r j) = v (ix2 r j) * Scale.byteVal (s (ix3 0 k j)) := by
  rw [← spreadV_apply (rowWords ![k.val, 0] h s) v r j _ (rowWords_apply k h s j)]
  pointwise [bandV]

/-- The same band, turned. -/
theorem bandT_apply (k : Fin 2) (h : S2x1536.Slices ![k.val, 0] S1x1536) (s : Vec Ideal S1x2x1536 .i8)
    (v : Vec Ideal S128x1536 .fp8e4m3) (r : Fin 128) (j : Fin 1536) :
    bandT ![k.val, 0] h s v (ix2 j r) = v (ix2 r j) * Scale.byteVal (s (ix3 0 k j)) := by
  rw [← spreadV_apply (rowWords ![k.val, 0] h s) v r j _ (rowWords_apply k h s j)]
  pointwise [bandT]

/-- A band of a weight widened by a row of the table: each code times its byte's scale. -/
theorem weightV_apply (w : Vec Ideal S1x1x1536 .i32) (v : Vec Ideal S128x1536 .fp8e4m3) (r : Fin 128) (j : Fin 1536) (b : BitVec 8)
    (h : w (ix3 0 0 j) = Scale.byteWord b) : weightV w v (ix2 r j) = v (ix2 r j) * Scale.byteVal b := by
  have e : shapeCast S1x1536 w shapeCasts_S1x1x1536_S1x1536 (ix2 0 j) = Scale.byteWord b := by
    rw [← h]
    pointwise
  rw [← spreadV_apply _ v r j _ e]
  pointwise [weightV]

end Cert.Bands
-- ==== Proof.Target.lean ====
module

public import proofs.«01_k».proof.Proof.Quant

/-!
What the results are, as plain mathematics.

A column of 1536 values is quantised in twelve blocks of 128: `codeAt` is the code of one value, `wideAt` the value
that its code and its block's scale stand for, `byteAt` the byte that stores a block's scale.
-/

@[expose] public section

noncomputable section

namespace Cert.Target

/-- Block `g` of a column. -/
def blk (f : Fin 1536 → EReal) (g : Fin 12) : Fin 128 → EReal := fun s => f ⟨128 * g.val + s.val, by omega⟩

/-- The code of the value in row `r`. -/
def codeAt (f : Fin 1536 → EReal) (r : Fin 1536) : EReal :=
  Scale.code (blk f ⟨r.val / 128, by omega⟩) ⟨r.val % 128, Nat.mod_lt _ (by decide)⟩

/-- What the code of the value in row `r` stands for. -/
def wideAt (f : Fin 1536 → EReal) (r : Fin 1536) : EReal :=
  Scale.wide (blk f ⟨r.val / 128, by omega⟩) ⟨r.val % 128, Nat.mod_lt _ (by decide)⟩

/-- The byte of block `k` of the pair `g` of blocks. -/
def byteAt (f : Fin 1536 → EReal) (g : Fin 6) (k : Fin 2) : BitVec 8 := Scale.byte (blk f ⟨2 * g.val + k.val, by omega⟩)

/-- The code in a row, from the row's block and its place there. -/
theorem codeAt_block (f : Fin 1536 → EReal) (g : Fin 12) (s : Fin 128) (r : Fin 1536) (h : r.val = 128 * g.val + s.val) :
    codeAt f r = Scale.code (blk f g) s := by
  obtain ⟨r, hr⟩ := r
  simp only at h
  subst h
  unfold codeAt
  congr
  · show (128 * g.val + s.val) / 128 = g.val
    omega
  · show (128 * g.val + s.val) % 128 = s.val
    omega

/-- The widened value in a row, from the row's block and its place there. -/
theorem wideAt_block (f : Fin 1536 → EReal) (g : Fin 12) (s : Fin 128) (r : Fin 1536) (h : r.val = 128 * g.val + s.val) :
    wideAt f r = Scale.wide (blk f g) s := by
  obtain ⟨r, hr⟩ := r
  simp only at h
  subst h
  unfold wideAt
  congr
  · show (128 * g.val + s.val) / 128 = g.val
    omega
  · show (128 * g.val + s.val) % 128 = s.val
    omega

end Cert.Target
-- ==== Proof.BlockPieces.lean ====
module

public import proofs.«01_k».proof.Proof.BandValues
public import proofs.«01_k».proof.Proof.WidenValues
public import proofs.«01_k».proof.Proof.Target
public import Idealize.ShloMosaic.Lib.Pipeline.ValueKit
public import Idealize.ShloMosaic.Lib.Pipeline.ReadBack
public import Idealize.ShloMosaic.Lib.Ring
public import Idealize.ShloMosaic.Lib.Claim

/-!
Each store of the kernel's block operations is a block of one array.

For every kind of store (a band's codes, a band's values, a pair's bytes, a widened band, …) one lemma says that what
is stored at the rectangle's place is the array's value there.
-/

@[expose] public section

set_option maxRecDepth 16384

noncomputable section

namespace Cert.Bands
open Idealize.ShloMosaic Idealize.SL.Sem Cert.KernelIdeal Cert.KernelIdeal.Gen Cert.Target

/-- Column `j` of a block of 256 columns. -/
abbrev colOf (v : Vec Ideal S1536x256 .bf16) (j : Fin 256) : Fin 1536 → EReal := fun r => v (ix2 r j)

/-- Where a rectangle of a matrix puts one of its places. -/
theorem emb2 {A B a b : ℕ} (o p : ℕ) (inb) (r : Fin a) (j : Fin b) (r' : Fin A) (j' : Fin B) (hr : r'.val = o + r.val) (hj : j'.val = p + j.val) :
    (Rect.unit (s := ⟨2, ![A, B]⟩) ![o, p] ![a, b] inb).emb (ix2 r j) = ix2 r' j' := by
  funext x
  apply Fin.ext
  fin_cases x
  · show o + 1 * r.val = r'.val
    omega
  · show p + 1 * j.val = j'.val
    omega

/-- Where a rectangle of an array of three axes puts one of its places. -/
theorem emb3 {A B C a b c : ℕ} (o p q : ℕ) (inb) (r : Fin a) (j : Fin b) (k : Fin c) (r' : Fin A) (j' : Fin B) (k' : Fin C)
    (hr : r'.val = o + r.val) (hj : j'.val = p + j.val) (hk : k'.val = q + k.val) :
    (Rect.unit (s := ⟨3, ![A, B, C]⟩) ![o, p, q] ![a, b, c] inb).emb (ix3 r j k) = ix3 r' j' k' := by
  funext x
  apply Fin.ext
  fin_cases x
  · show o + 1 * r.val = r'.val
    omega
  · show p + 1 * j.val = j'.val
    omega
  · show q + 1 * k.val = k'.val
    omega

/-- A column of a loaded band is a block of the whole column. -/
theorem ld_col (v : Vec Ideal S1536x256 .bf16) (o : ℕ) (inb) (g : Fin 12) (ho : o = 128 * g.val) (j : Fin 256) :
    col (View.ld v (Rect.unit (s := S1536x256) ![o, 0] ![128, 256] inb)) j = blk (colOf v j) g := by
  funext s
  show v ((Rect.unit (s := S1536x256) ![o, 0] ![128, 256] inb).emb (ix2 s j)) = _
  rw [emb2 o 0 inb s j ⟨128 * g.val + s.val, by omega⟩ j (by subst ho; rfl) (by omega)]
  rfl

/-- A band's codes. -/
theorem codes_piece (v : Vec Ideal S1536x256 .bf16) (o : ℕ) (inb) (g : Fin 12) (ho : o = 128 * g.val) (x : S128x256.Idx) :
    codesV (View.ld v (Rect.unit (s := S1536x256) ![o, 0] ![128, 256] inb)) x
      = (fun i : S1536x256.Idx => codeAt (colOf v (i 1)) (i 0)) ((Rect.unit (s := S1536x256) ![o, 0] ![128, 256] inb).emb x) := by
  idx_vars x
  rw [emb2 o 0 inb x0 x1 ⟨128 * g.val + x0.val, by omega⟩ x1 (by subst ho; rfl) (by omega)]
  rw [codesV_apply, ld_col v o inb g ho]
  exact (codeAt_block (colOf v x1) g x0 _ rfl).symm

/-- A band's values after quantising and widening. -/
theorem wide_piece (v : Vec Ideal S1536x256 .bf16) (o : ℕ) (inb) (g : Fin 12) (ho : o = 128 * g.val) (x : S128x256.Idx) :
    wideV (View.ld v (Rect.unit (s := S1536x256) ![o, 0] ![128, 256] inb)) x
      = (fun i : S1536x256.Idx => wideAt (colOf v (i 1)) (i 0)) ((Rect.unit (s := S1536x256) ![o, 0] ![128, 256] inb).emb x) := by
  idx_vars x
  rw [emb2 o 0 inb x0 x1 ⟨128 * g.val + x0.val, by omega⟩ x1 (by subst ho; rfl) (by omega)]
  rw [wideV_apply, ld_col v o inb g ho]
  exact (wideAt_block (colOf v x1) g x0 _ rfl).symm

/-- The bytes of a pair of bands. -/
theorem bytes_piece (v : Vec Ideal S1536x256 .bf16) (o o' p : ℕ) (inb inb' inb'') (g : Fin 6) (ho : o = 256 * g.val)
    (ho' : o' = 256 * g.val + 128) (hp : p = g.val) (x : S1x2x256.Idx) :
    bytesV (View.ld v (Rect.unit (s := S1536x256) ![o, 0] ![128, 256] inb)) (View.ld v (Rect.unit (s := S1536x256) ![o', 0] ![128, 256] inb')) x
      = (fun i : S6x2x256.Idx => byteAt (colOf v (i 2)) (i 0) (i 1)) ((Rect.unit (s := S6x2x256) ![p, 0, 0] ![1, 2, 256] inb'').emb x) := by
  idx_vars x
  obtain rfl : x0 = 0 := by omega
  rw [emb3 p 0 0 inb'' 0 x1 x2 g x1 x2 (by subst hp; rfl) (by omega) (by omega)]
  rw [bytesV_apply]
  show _ = byteAt (colOf v x2) g x1
  unfold byteAt
  by_cases c : x1 = 0
  · subst c
    rw [if_pos rfl, ld_col v o inb ⟨2 * g.val, by omega⟩ (by simp only; omega)]
    rfl
  · obtain rfl : x1 = 1 := by omega
    rw [if_neg c, ld_col v o' inb' ⟨2 * g.val + 1, by omega⟩ (by simp only; omega)]
    rfl

/-- A column code times the byte of its block. -/
def unq (v : Vec Ideal S1536x1536 .fp8e4m3) (s : Vec Ideal S6x2x1536 .i8) (r j : Fin 1536) : EReal :=
  v (ix2 r j) * Scale.byteVal (s (ix3 ⟨r.val / 256, by omega⟩ ⟨r.val / 128 % 2, by omega⟩ j))

/-- A loaded band of codes, at one place. -/
theorem ld_codes (v : Vec Ideal S1536x1536 .fp8e4m3) (o : ℕ) (inb) (r : Fin 128) (j : Fin 1536) (r' : Fin 1536) (h : r'.val = o + r.val) :
    View.ld v (Rect.unit (s := S1536x1536) ![o, 0] ![128, 1536] inb) (ix2 r j) = v (ix2 r' j) := by
  show v ((Rect.unit (s := S1536x1536) ![o, 0] ![128, 1536] inb).emb (ix2 r j)) = _
  rw [emb2 o 0 inb r j r' j h (by omega)]

/-- A loaded pair of rows of bytes, at one place. -/
theorem ld_bytes (s : Vec Ideal S6x2x1536 .i8) (p : ℕ) (inb) (k : Fin 2) (j : Fin 1536) (g : Fin 6) (h : p = g.val) :
    View.ld s (Rect.unit (s := S6x2x1536) ![p, 0, 0] ![1, 2, 1536] inb) (ix3 0 k j) = s (ix3 g k j) := by
  show s ((Rect.unit (s := S6x2x1536) ![p, 0, 0] ![1, 2, 1536] inb).emb (ix3 0 k j)) = _
  rw [emb3 p 0 0 inb 0 k j g k j (by subst h; rfl) (by omega) (by omega)]

/-- A widened code, from its block's byte. -/
theorem unq_block (v : Vec Ideal S1536x1536 .fp8e4m3) (s : Vec Ideal S6x2x1536 .i8) (g : Fin 6) (k : Fin 2) (r : Fin 128) (r' j : Fin 1536)
    (h : r'.val = 256 * g.val + 128 * k.val + r.val) :
    unq v s r' j = v (ix2 r' j) * Scale.byteVal (s (ix3 g k j)) := by
  have e0 : (⟨r'.val / 256, by omega⟩ : Fin 6) = g := Fin.ext (by simp only; omega)
  have e1 : (⟨r'.val / 128 % 2, by omega⟩ : Fin 2) = k := Fin.ext (by simp only; omega)
  rw [unq, e0, e1]

/-- A widened band of column codes. -/
theorem band_piece (v : Vec Ideal S1536x1536 .fp8e4m3) (s : Vec Ideal S6x2x1536 .i8) (k : Fin 2) (hk) (o p : ℕ) (inb inb') (g : Fin 6)
    (hp : p = g.val) (ho : o = 256 * g.val + 128 * k.val) (x : S128x1536.Idx) :
    bandV ![k.val, 0] hk (View.ld s (Rect.unit (s := S6x2x1536) ![p, 0, 0] ![1, 2, 1536] inb'))
        (View.ld v (Rect.unit (s := S1536x1536) ![o, 0] ![128, 1536] inb)) x
      = (fun i : S1536x1536.Idx => unq v s (i 0) (i 1)) ((Rect.unit (s := S1536x1536) ![o, 0] ![128, 1536] inb).emb x) := by
  idx_vars x
  rw [emb2 o 0 inb x0 x1 ⟨o + x0.val, by omega⟩ x1 rfl (by omega)]
  rw [bandV_apply, ld_codes v o inb x0 x1 ⟨o + x0.val, by omega⟩ rfl, ld_bytes s p inb' k x1 g hp]
  exact (unq_block v s g k x0 _ x1 (by simp only; omega)).symm

/-- A widened and turned band of column codes. -/
theorem turned_piece (v : Vec Ideal S1536x1536 .fp8e4m3) (s : Vec Ideal S6x2x1536 .i8) (k : Fin 2) (hk) (o p : ℕ) (inb inb' inb'') (g : Fin 6)
    (hp : p = g.val) (ho : o = 256 * g.val + 128 * k.val) (x : S1536x128.Idx) :
    bandT ![k.val, 0] hk (View.ld s (Rect.unit (s := S6x2x1536) ![p, 0, 0] ![1, 2, 1536] inb'))
        (View.ld v (Rect.unit (s := S1536x1536) ![o, 0] ![128, 1536] inb)) x
      = (fun i : S1536x1536.Idx => unq v s (i 1) (i 0)) ((Rect.unit (s := S1536x1536) ![0, o] ![1536, 128] inb'').emb x) := by
  idx_vars x
  rw [emb2 0 o inb'' x0 x1 x0 ⟨o + x1.val, by omega⟩ (by omega) rfl]
  rw [bandT_apply, ld_codes v o inb x1 x0 ⟨o + x1.val, by omega⟩ rfl, ld_bytes s p inb' k x0 g hp]
  exact (unq_block v s g k x1 _ x0 (by simp only; omega)).symm

/-- Stores that are all blocks of one array, and tile it, leave that array. -/
theorem canon_eq {s : Shape} {e} {L : List (View.Piece (Elt Ideal) s e)} (G : s.Idx → Elt Ideal e) (size : Fin s.rank → ℕ)
    (h : View.PiecesOf G L) (t : View.Piece.tiledL L size = true) : View.canon L = G :=
  funext fun y => View.canon_apply_of_pieces G L h.mem y (View.cover_of_tiledL L size t y)

/-- A load of the whole array after such stores reads that array. -/
theorem whole_eq {κ} {sp} {A B : ℕ} {e} {L : List (View.Piece (Elt Ideal) ⟨2, ![A, B]⟩ e)} (v : View sig κ sp ⟨2, ![A, B]⟩ e)
    (G : (⟨2, ![A, B]⟩ : Shape).Idx → Elt Ideal e) (size : Fin 2 → ℕ) (inb)
    (h : View.PiecesOf G L) (t : View.Piece.tiledL L size = true) :
    v.readCov L (Rect.unit (s := ⟨2, ![A, B]⟩) ![0, 0] ![A, B] inb).toLoadRect = G := by
  rw [View.readCov_eq_canon', canon_eq G size h t]
  funext x
  refine congrArg G (funext fun a => Fin.ext ?_)
  fin_cases a
  · show 0 + 1 * (x 0).val = (x 0).val
    omega
  · show 0 + 1 * (x 1).val = (x 1).val
    omega

/-! ### The lists of stores -/

/-- A block of columns quantised: its codes. -/
def codesB (v : Vec Ideal S1536x256 .bf16) : FVec Ideal S1536x256 .fp8e4m3 := fun i => codeAt (colOf v (i 1)) (i 0)
/-- … its bytes. -/
def bytesB (v : Vec Ideal S1536x256 .bf16) : IVec S6x2x256 8 := fun i => byteAt (colOf v (i 2)) (i 0) (i 1)
/-- … the values its codes and bytes stand for. -/
def wideB (v : Vec Ideal S1536x256 .bf16) : FVec Ideal S1536x256 .bf16 := fun i => wideAt (colOf v (i 1)) (i 0)
/-- Column codes widened. -/
def unqB (v : Vec Ideal S1536x1536 .fp8e4m3) (s : Vec Ideal S6x2x1536 .i8) : FVec Ideal S1536x1536 .bf16 := fun i => unq v s (i 0) (i 1)
/-- … and turned. -/
def unqT (v : Vec Ideal S1536x1536 .fp8e4m3) (s : Vec Ideal S6x2x1536 .i8) : FVec Ideal S1536x1536 .bf16 := fun i => unq v s (i 1) (i 0)

/-- A band of rows of a block of 256 columns. -/
abbrev band (o : ℕ) (h : ∀ a, ![o, 0] a + ![128, 256] a ≤ S1536x256.size a) : Rect S1536x256 := Rect.unit (s := S1536x256) ![o, 0] ![128, 256] h
/-- A band of rows of a square array. -/
abbrev rows (o : ℕ) (h : ∀ a, ![o, 0] a + ![128, 1536] a ≤ S1536x1536.size a) : Rect S1536x1536 := Rect.unit (s := S1536x1536) ![o, 0] ![128, 1536] h
/-- A band of columns of a square array. -/
abbrev cols (o : ℕ) (h : ∀ a, ![0, o] a + ![1536, 128] a ≤ S1536x1536.size a) : Rect S1536x1536 := Rect.unit (s := S1536x1536) ![0, o] ![1536, 128] h
/-- A pair of rows of bytes. -/
abbrev pair (p : ℕ) (h : ∀ a, ![p, 0, 0] a + ![1, 2, 1536] a ≤ S6x2x1536.size a) : Rect S6x2x1536 := Rect.unit (s := S6x2x1536) ![p, 0, 0] ![1, 2, 1536] h
/-- A pair of rows of a block of bytes. -/
abbrev pairB (p : ℕ) (h : ∀ a, ![p, 0, 0] a + ![1, 2, 256] a ≤ S6x2x256.size a) : Rect S6x2x256 := Rect.unit (s := S6x2x256) ![p, 0, 0] ![1, 2, 256] h

/-- The stores of the codes. -/
def codePieces (v : Vec Ideal S1536x256 .bf16) : List (View.Piece (Elt Ideal) S1536x256 .fp8e4m3) :=
  [⟨band 1408 (by decide), codesV (View.ld v (band 1408 (by decide)))⟩,
   ⟨band 1280 (by decide), codesV (View.ld v (band 1280 (by decide)))⟩,
   ⟨band 1152 (by decide), codesV (View.ld v (band 1152 (by decide)))⟩,
   ⟨band 1024 (by decide), codesV (View.ld v (band 1024 (by decide)))⟩,
   ⟨band 896 (by decide), codesV (View.ld v (band 896 (by decide)))⟩,
   ⟨band 768 (by decide), codesV (View.ld v (band 768 (by decide)))⟩,
   ⟨band 640 (by decide), codesV (View.ld v (band 640 (by decide)))⟩,
   ⟨band 512 (by decide), codesV (View.ld v (band 512 (by decide)))⟩,
   ⟨band 384 (by decide), codesV (View.ld v (band 384 (by decide)))⟩,
   ⟨band 256 (by decide), codesV (View.ld v (band 256 (by decide)))⟩,
   ⟨band 128 (by decide), codesV (View.ld v (band 128 (by decide)))⟩,
   ⟨band 0 (by decide), codesV (View.ld v (band 0 (by decide)))⟩]

/-- Each store of the codes holds its part of the block's codes. -/
theorem codePieces_of (v : Vec Ideal S1536x256 .bf16) : View.PiecesOf (codesB v) (codePieces v) :=
  ⟨codes_piece v 1408 (by decide) 11 rfl, codes_piece v 1280 (by decide) 10 rfl, codes_piece v 1152 (by decide) 9 rfl, codes_piece v 1024 (by decide) 8 rfl, codes_piece v 896 (by decide) 7 rfl, codes_piece v 768 (by decide) 6 rfl, codes_piece v 640 (by decide) 5 rfl, codes_piece v 512 (by decide) 4 rfl, codes_piece v 384 (by decide) 3 rfl, codes_piece v 256 (by decide) 2 rfl, codes_piece v 128 (by decide) 1 rfl, codes_piece v 0 (by decide) 0 rfl, trivial⟩

/-- The stores of the codes join into the block's codes. -/
theorem codePieces_canon (v : Vec Ideal S1536x256 .bf16) : View.canon (codePieces v) = codesB v := canon_eq _ ![128, 256] (codePieces_of v) (by sl_kernel_rfl)

/-- The stores of the widened values. -/
def widePieces (v : Vec Ideal S1536x256 .bf16) : List (View.Piece (Elt Ideal) S1536x256 .bf16) :=
  [⟨band 1408 (by decide), wideV (View.ld v (band 1408 (by decide)))⟩,
   ⟨band 1280 (by decide), wideV (View.ld v (band 1280 (by decide)))⟩,
   ⟨band 1152 (by decide), wideV (View.ld v (band 1152 (by decide)))⟩,
   ⟨band 1024 (by decide), wideV (View.ld v (band 1024 (by decide)))⟩,
   ⟨band 896 (by decide), wideV (View.ld v (band 896 (by decide)))⟩,
   ⟨band 768 (by decide), wideV (View.ld v (band 768 (by decide)))⟩,
   ⟨band 640 (by decide), wideV (View.ld v (band 640 (by decide)))⟩,
   ⟨band 512 (by decide), wideV (View.ld v (band 512 (by decide)))⟩,
   ⟨band 384 (by decide), wideV (View.ld v (band 384 (by decide)))⟩,
   ⟨band 256 (by decide), wideV (View.ld v (band 256 (by decide)))⟩,
   ⟨band 128 (by decide), wideV (View.ld v (band 128 (by decide)))⟩,
   ⟨band 0 (by decide), wideV (View.ld v (band 0 (by decide)))⟩]

/-- Each store of the widened values holds its part of them. -/
theorem widePieces_of (v : Vec Ideal S1536x256 .bf16) : View.PiecesOf (wideB v) (widePieces v) :=
  ⟨wide_piece v 1408 (by decide) 11 rfl, wide_piece v 1280 (by decide) 10 rfl, wide_piece v 1152 (by decide) 9 rfl, wide_piece v 1024 (by decide) 8 rfl, wide_piece v 896 (by decide) 7 rfl, wide_piece v 768 (by decide) 6 rfl, wide_piece v 640 (by decide) 5 rfl, wide_piece v 512 (by decide) 4 rfl, wide_piece v 384 (by decide) 3 rfl, wide_piece v 256 (by decide) 2 rfl, wide_piece v 128 (by decide) 1 rfl, wide_piece v 0 (by decide) 0 rfl, trivial⟩

/-- The stores of the widened values join into the block's. -/
theorem widePieces_canon (v : Vec Ideal S1536x256 .bf16) : View.canon (widePieces v) = wideB v := canon_eq _ ![128, 256] (widePieces_of v) (by sl_kernel_rfl)

/-- The stores of the bytes. -/
def bytePieces (v : Vec Ideal S1536x256 .bf16) : List (View.Piece (Elt Ideal) S6x2x256 .i8) :=
  [⟨pairB 5 (by decide), bytesV (View.ld v (band 1280 (by decide))) (View.ld v (band 1408 (by decide)))⟩,
   ⟨pairB 4 (by decide), bytesV (View.ld v (band 1024 (by decide))) (View.ld v (band 1152 (by decide)))⟩,
   ⟨pairB 3 (by decide), bytesV (View.ld v (band 768 (by decide))) (View.ld v (band 896 (by decide)))⟩,
   ⟨pairB 2 (by decide), bytesV (View.ld v (band 512 (by decide))) (View.ld v (band 640 (by decide)))⟩,
   ⟨pairB 1 (by decide), bytesV (View.ld v (band 256 (by decide))) (View.ld v (band 384 (by decide)))⟩,
   ⟨pairB 0 (by decide), bytesV (View.ld v (band 0 (by decide))) (View.ld v (band 128 (by decide)))⟩]

/-- Each store of the bytes holds its part of the block's bytes. -/
theorem bytePieces_of (v : Vec Ideal S1536x256 .bf16) : View.PiecesOf (bytesB v) (bytePieces v) :=
  ⟨bytes_piece v 1280 1408 5 (by decide) (by decide) (by decide) 5 rfl rfl rfl, bytes_piece v 1024 1152 4 (by decide) (by decide) (by decide) 4 rfl rfl rfl, bytes_piece v 768 896 3 (by decide) (by decide) (by decide) 3 rfl rfl rfl, bytes_piece v 512 640 2 (by decide) (by decide) (by decide) 2 rfl rfl rfl, bytes_piece v 256 384 1 (by decide) (by decide) (by decide) 1 rfl rfl rfl, bytes_piece v 0 128 0 (by decide) (by decide) (by decide) 0 rfl rfl rfl, trivial⟩

/-- The stores of the bytes join into the block's bytes. -/
theorem bytePieces_canon (v : Vec Ideal S1536x256 .bf16) : View.canon (bytePieces v) = bytesB v := canon_eq _ ![1, 2, 256] (bytePieces_of v) (by sl_kernel_rfl)

/-- The stores of the widened codes. -/
def bandPieces (v : Vec Ideal S1536x1536 .fp8e4m3) (s : Vec Ideal S6x2x1536 .i8) : List (View.Piece (Elt Ideal) S1536x1536 .bf16) :=
  [⟨rows 1408 (by decide), bandV ![1, 0] (by decide) (View.ld s (pair 5 (by decide))) (View.ld v (rows 1408 (by decide)))⟩,
   ⟨rows 1280 (by decide), bandV ![0, 0] (by decide) (View.ld s (pair 5 (by decide))) (View.ld v (rows 1280 (by decide)))⟩,
   ⟨rows 1152 (by decide), bandV ![1, 0] (by decide) (View.ld s (pair 4 (by decide))) (View.ld v (rows 1152 (by decide)))⟩,
   ⟨rows 1024 (by decide), bandV ![0, 0] (by decide) (View.ld s (pair 4 (by decide))) (View.ld v (rows 1024 (by decide)))⟩,
   ⟨rows 896 (by decide), bandV ![1, 0] (by decide) (View.ld s (pair 3 (by decide))) (View.ld v (rows 896 (by decide)))⟩,
   ⟨rows 768 (by decide), bandV ![0, 0] (by decide) (View.ld s (pair 3 (by decide))) (View.ld v (rows 768 (by decide)))⟩,
   ⟨rows 640 (by decide), bandV ![1, 0] (by decide) (View.ld s (pair 2 (by decide))) (View.ld v (rows 640 (by decide)))⟩,
   ⟨rows 512 (by decide), bandV ![0, 0] (by decide) (View.ld s (pair 2 (by decide))) (View.ld v (rows 512 (by decide)))⟩,
   ⟨rows 384 (by decide), bandV ![1, 0] (by decide) (View.ld s (pair 1 (by decide))) (View.ld v (rows 384 (by decide)))⟩,
   ⟨rows 256 (by decide), bandV ![0, 0] (by decide) (View.ld s (pair 1 (by decide))) (View.ld v (rows 256 (by decide)))⟩,
   ⟨rows 128 (by decide), bandV ![1, 0] (by decide) (View.ld s (pair 0 (by decide))) (View.ld v (rows 128 (by decide)))⟩,
   ⟨rows 0 (by decide), bandV ![0, 0] (by decide) (View.ld s (pair 0 (by decide))) (View.ld v (rows 0 (by decide)))⟩]

/-- Each store of widened column codes holds its part of them. -/
theorem bandPieces_of (v : Vec Ideal S1536x1536 .fp8e4m3) (s : Vec Ideal S6x2x1536 .i8) : View.PiecesOf (unqB v s) (bandPieces v s) :=
  ⟨band_piece v s 1 (by decide) 1408 5 (by decide) (by decide) 5 rfl rfl, band_piece v s 0 (by decide) 1280 5 (by decide) (by decide) 5 rfl rfl, band_piece v s 1 (by decide) 1152 4 (by decide) (by decide) 4 rfl rfl, band_piece v s 0 (by decide) 1024 4 (by decide) (by decide) 4 rfl rfl, band_piece v s 1 (by decide) 896 3 (by decide) (by decide) 3 rfl rfl, band_piece v s 0 (by decide) 768 3 (by decide) (by decide) 3 rfl rfl, band_piece v s 1 (by decide) 640 2 (by decide) (by decide) 2 rfl rfl, band_piece v s 0 (by decide) 512 2 (by decide) (by decide) 2 rfl rfl, band_piece v s 1 (by decide) 384 1 (by decide) (by decide) 1 rfl rfl, band_piece v s 0 (by decide) 256 1 (by decide) (by decide) 1 rfl rfl, band_piece v s 1 (by decide) 128 0 (by decide) (by decide) 0 rfl rfl, band_piece v s 0 (by decide) 0 0 (by decide) (by decide) 0 rfl rfl, trivial⟩

/-- The stores of widened column codes join into the whole array. -/
theorem bandPieces_canon (v : Vec Ideal S1536x1536 .fp8e4m3) (s : Vec Ideal S6x2x1536 .i8) : View.canon (bandPieces v s) = unqB v s := canon_eq _ ![128, 1536] (bandPieces_of v s) (by sl_kernel_rfl)

/-- The stores of the widened and turned codes. -/
def turnedPieces (v : Vec Ideal S1536x1536 .fp8e4m3) (s : Vec Ideal S6x2x1536 .i8) : List (View.Piece (Elt Ideal) S1536x1536 .bf16) :=
  [⟨cols 1408 (by decide), bandT ![1, 0] (by decide) (View.ld s (pair 5 (by decide))) (View.ld v (rows 1408 (by decide)))⟩,
   ⟨cols 1280 (by decide), bandT ![0, 0] (by decide) (View.ld s (pair 5 (by decide))) (View.ld v (rows 1280 (by decide)))⟩,
   ⟨cols 1152 (by decide), bandT ![1, 0] (by decide) (View.ld s (pair 4 (by decide))) (View.ld v (rows 1152 (by decide)))⟩,
   ⟨cols 1024 (by decide), bandT ![0, 0] (by decide) (View.ld s (pair 4 (by decide))) (View.ld v (rows 1024 (by decide)))⟩,
   ⟨cols 896 (by decide), bandT ![1, 0] (by decide) (View.ld s (pair 3 (by decide))) (View.ld v (rows 896 (by decide)))⟩,
   ⟨cols 768 (by decide), bandT ![0, 0] (by decide) (View.ld s (pair 3 (by decide))) (View.ld v (rows 768 (by decide)))⟩,
   ⟨cols 640 (by decide), bandT ![1, 0] (by decide) (View.ld s (pair 2 (by decide))) (View.ld v (rows 640 (by decide)))⟩,
   ⟨cols 512 (by decide), bandT ![0, 0] (by decide) (View.ld s (pair 2 (by decide))) (View.ld v (rows 512 (by decide)))⟩,
   ⟨cols 384 (by decide), bandT ![1, 0] (by decide) (View.ld s (pair 1 (by decide))) (View.ld v (rows 384 (by decide)))⟩,
   ⟨cols 256 (by decide), bandT ![0, 0] (by decide) (View.ld s (pair 1 (by decide))) (View.ld v (rows 256 (by decide)))⟩,
   ⟨cols 128 (by decide), bandT ![1, 0] (by decide) (View.ld s (pair 0 (by decide))) (View.ld v (rows 128 (by decide)))⟩,
   ⟨cols 0 (by decide), bandT ![0, 0] (by decide) (View.ld s (pair 0 (by decide))) (View.ld v (rows 0 (by decide)))⟩]

/-- Each store of turned column codes holds its part of them. -/
theorem turnedPieces_of (v : Vec Ideal S1536x1536 .fp8e4m3) (s : Vec Ideal S6x2x1536 .i8) : View.PiecesOf (unqT v s) (turnedPieces v s) :=
  ⟨turned_piece v s 1 (by decide) 1408 5 (by decide) (by decide) (by decide) 5 rfl rfl, turned_piece v s 0 (by decide) 1280 5 (by decide) (by decide) (by decide) 5 rfl rfl, turned_piece v s 1 (by decide) 1152 4 (by decide) (by decide) (by decide) 4 rfl rfl, turned_piece v s 0 (by decide) 1024 4 (by decide) (by decide) (by decide) 4 rfl rfl, turned_piece v s 1 (by decide) 896 3 (by decide) (by decide) (by decide) 3 rfl rfl, turned_piece v s 0 (by decide) 768 3 (by decide) (by decide) (by decide) 3 rfl rfl, turned_piece v s 1 (by decide) 640 2 (by decide) (by decide) (by decide) 2 rfl rfl, turned_piece v s 0 (by decide) 512 2 (by decide) (by decide) (by decide) 2 rfl rfl, turned_piece v s 1 (by decide) 384 1 (by decide) (by decide) (by decide) 1 rfl rfl, turned_piece v s 0 (by decide) 256 1 (by decide) (by decide) (by decide) 1 rfl rfl, turned_piece v s 1 (by decide) 128 0 (by decide) (by decide) (by decide) 0 rfl rfl, turned_piece v s 0 (by decide) 0 0 (by decide) (by decide) (by decide) 0 rfl rfl, trivial⟩

/-- The stores of turned column codes join into the whole array. -/
theorem turnedPieces_canon (v : Vec Ideal S1536x1536 .fp8e4m3) (s : Vec Ideal S6x2x1536 .i8) : View.canon (turnedPieces v s) = unqT v s := canon_eq _ ![1536, 128] (turnedPieces_of v s) (by sl_kernel_rfl)

/-- A load of a whole block. -/
abbrev wholeB : LoadRect S1536x256 := (Rect.unit (s := S1536x256) ![0, 0] ![1536, 256] (by decide)).toLoadRect
/-- A load of a whole square array. -/
abbrev wholeQ : LoadRect S1536x1536 := (Rect.unit (s := S1536x1536) ![0, 0] ![1536, 1536] (by decide)).toLoadRect

/-- A load of the widened values after their stores. -/
theorem read_wide {κ} {sp} (w : View sig κ sp S1536x256 .bf16) (v : Vec Ideal S1536x256 .bf16) : w.readCov (widePieces v) wholeB = wideB v :=
  whole_eq w _ ![128, 256] _ (widePieces_of v) (by sl_kernel_rfl)

/-- A load of the widened column codes after their stores. -/
theorem read_band {κ} {sp} (w : View sig κ sp S1536x1536 .bf16) (v : Vec Ideal S1536x1536 .fp8e4m3) (s : Vec Ideal S6x2x1536 .i8) :
    w.readCov (bandPieces v s) wholeQ = unqB v s :=
  whole_eq w _ ![128, 1536] _ (bandPieces_of v s) (by sl_kernel_rfl)

/-- A load of the turned column codes after their stores. -/
theorem read_turned {κ} {sp} (w : View sig κ sp S1536x1536 .bf16) (v : Vec Ideal S1536x1536 .fp8e4m3) (s : Vec Ideal S6x2x1536 .i8) :
    w.readCov (turnedPieces v s) wholeQ = unqT v s :=
  whole_eq w _ ![1536, 128] _ (turnedPieces_of v s) (by sl_kernel_rfl)

end Cert.Bands
-- ==== Proof.WeightPieces.lean ====
module

public import proofs.«01_k».proof.Proof.BlockPieces

/-!
The stores that widen the three weights, and the table of bytes they read, as blocks of arrays.
-/

@[expose] public section

set_option maxRecDepth 16384

noncomputable section

namespace Cert.Bands
open Idealize.ShloMosaic Idealize.SL.Sem Cert.KernelIdeal Cert.KernelIdeal.Gen Cert.Target

/-! ### The table -/

/-- The table of words: row `k` of group `g` at column `j` is the word of the weight's byte there. -/
def tableB (s : Vec Ideal S40x12 .i8) : IVec S20x2x1536 32 := fun i =>
  Scale.byteWord (s (ix2 ⟨2 * (i 0).val + (i 1).val, by have : (i 0).val < 20 := (i 0).isLt; have : (i 1).val < 2 := (i 1).isLt; omega⟩
    ⟨(i 2).val / 128, by have : (i 2).val < 1536 := (i 2).isLt; omega⟩))

/-- Every column of the bytes can be cut out. -/
theorem slice_col : ∀ f : Fin 12, S40x12.Slices ![0, f.val] S40x1 := by decide
/-- Every pair of rows of the bytes can be cut out. -/
theorem slice_rows : ∀ g : Fin 20, S40x128.Slices ![2 * g.val, 0] S2x128 := by decide

/-- The place of one store of the table. -/
abbrev spot (g : Fin 20) (f : Fin 12) : Rect S20x2x1536 :=
  Rect.unit (s := S20x2x1536) ![g.val, 0, 128 * f.val] ![1, 2, 128] (fun a => by
    fin_cases a
    · show g.val + 1 ≤ 20
      omega
    · show 0 + 2 ≤ 2
      omega
    · show 128 * f.val + 128 ≤ 1536
      omega)

/-- One store of the table. -/
abbrev tableStore (s : Vec Ideal S40x12 .i8) (g : Fin 20) (f : Fin 12) : View.Piece (Elt Ideal) S20x2x1536 .i32 :=
  ⟨spot g f, tablePiece ![0, f.val] (slice_col f) ![2 * g.val, 0] (slice_rows g) s⟩

/-- A store of the table holds its part of the table. -/
theorem tableStore_of (s : Vec Ideal S40x12 .i8) (g : Fin 20) (f : Fin 12) (x : S1x2x128.Idx) :
    (tableStore s g f).2 x = tableB s ((spot g f).emb x) := by
  idx_vars x
  obtain rfl : x0 = 0 := by omega
  rw [emb3 g.val 0 (128 * f.val) _ 0 x1 x2 g x1 ⟨128 * f.val + x2.val, by omega⟩ rfl (by omega) rfl]
  rw [tablePiece_apply]
  unfold tableB
  congr 3
  apply Fin.ext
  show f.val = (128 * f.val + x2.val) / 128
  omega

/-- The first `n` stores of the table, the last one first. -/
def tablePieces (s : Vec Ideal S40x12 .i8) : (n : ℕ) → n ≤ 240 → List (View.Piece (Elt Ideal) S20x2x1536 .i32)
  | 0, _ => []
  | n + 1, h => tableStore s ⟨n % 20, Nat.mod_lt _ (by decide)⟩ ⟨n / 20, by omega⟩ :: tablePieces s n (by omega)

/-- So do all of the first `n` stores. -/
theorem tablePieces_of (s : Vec Ideal S40x12 .i8) : (n : ℕ) → (h : n ≤ 240) → View.PiecesOf (tableB s) (tablePieces s n h)
  | 0, _ => trivial
  | _ + 1, _ => ⟨tableStore_of s _ _, tablePieces_of s _ _⟩

/-- The 240 stores tile the table. -/
theorem table_tiled (s : Vec Ideal S40x12 .i8) : View.Piece.tiledL (tablePieces s 240 le_rfl) ![1, 2, 128] = true := by sl_kernel_rfl

/-- The stores join into the table. -/
theorem table_canon (s : Vec Ideal S40x12 .i8) : View.canon (tablePieces s 240 le_rfl) = tableB s :=
  canon_eq _ ![1, 2, 128] (tablePieces_of s 240 _) (table_tiled s)

/-- A load from the table after its stores. -/
theorem read_table {κ} {sp} (w : View sig κ sp S20x2x1536 .i32) (s : Vec Ideal S40x12 .i8) (B : LoadRect S20x2x1536) :
    w.readCov (tablePieces s 240 le_rfl) B = fun x => tableB s (B.idx x) := by
  rw [View.readCov_eq_canon', table_canon]

/-! ### The first and third weights -/

/-- A block of 256 rows of a weight widened, at grid point `t`. -/
def weightB (t : Fin 20) (v : Vec Ideal S256x1536 .fp8e4m3) (s : Vec Ideal S40x12 .i8) : FVec Ideal S256x1536 .bf16 := fun i =>
  v i * Scale.byteVal (s (ix2 ⟨2 * t.val + (i 0).val / 128, by have : (i 0).val < 256 := (i 0).isLt; omega⟩
    ⟨(i 1).val / 128, by have : (i 1).val < 1536 := (i 1).isLt; omega⟩))

/-- A band of rows of a block of a weight. -/
abbrev wband (o : ℕ) (h : ∀ a, ![o, 0] a + ![128, 1536] a ≤ S256x1536.size a) : Rect S256x1536 := Rect.unit (s := S256x1536) ![o, 0] ![128, 1536] h

/-- The row of the table that a band reads, as a load names it. -/
abbrev tableRow (off : Fin 3 → ℕ) (inb : ∀ a, off a + S1x1x1536.size a ≤ S20x2x1536.size a) : LoadRect S20x2x1536 :=
  (Rect.unit (s := S20x2x1536) off S1x1x1536.size inb).toLoadRect

/-- A band of a weight, widened by its row of the table. -/
theorem weight_piece (t : Fin 20) (k : Fin 2) (off : Fin 3 → ℕ) (inb) (ho : off = ![t.val, k.val, 0]) (o : ℕ) (hk : o = 128 * k.val) (h)
    (v : Vec Ideal S256x1536 .fp8e4m3) (s : Vec Ideal S40x12 .i8) (x : S128x1536.Idx) :
    weightV (F := Ideal) (fun y => tableB s ((tableRow off inb).idx y)) (View.ld v (wband o h)) x = weightB t v s ((wband o h).emb x) := by
  subst ho
  idx_vars x
  have e : (tableRow ![t.val, k.val, 0] inb).idx (ix3 0 0 x1) = ix3 t k x1 := by
    funext a
    apply Fin.ext
    fin_cases a
    · show t.val + 1 * 0 = t.val
      omega
    · show k.val + 1 * 0 = k.val
      omega
    · show 0 + 1 * x1.val = x1.val
      omega
  rw [weightV_apply _ _ x0 x1 (s (ix2 ⟨2 * t.val + k.val, by omega⟩ ⟨x1.val / 128, by omega⟩)) (by rw [e]; rfl)]
  rw [emb2 o 0 h x0 x1 ⟨o + x0.val, by omega⟩ x1 rfl (by omega)]
  have l : View.ld v (wband o h) (ix2 x0 x1) = v (ix2 ⟨o + x0.val, by omega⟩ x1) := by
    show v ((wband o h).emb (ix2 x0 x1)) = _
    rw [emb2 o 0 h x0 x1 ⟨o + x0.val, by omega⟩ x1 rfl (by omega)]
  rw [l]
  unfold weightB
  congr 4
  apply Fin.ext
  show 2 * t.val + k.val = 2 * t.val + (o + x0.val) / 128
  omega

/-- The stores of a block of a weight. -/
def weightPieces (off1 off2 : Fin 3 → ℕ) (inb1 : ∀ a, off1 a + S1x1x1536.size a ≤ S20x2x1536.size a) (inb2 : ∀ a, off2 a + S1x1x1536.size a ≤ S20x2x1536.size a)
    (T : IVec S20x2x1536 32) (v : Vec Ideal S256x1536 .fp8e4m3) : List (View.Piece (Elt Ideal) S256x1536 .bf16) :=
  [⟨wband 128 (by decide), weightV (F := Ideal) (fun y => T ((tableRow off2 inb2).idx y)) (View.ld v (wband 128 (by decide)))⟩,
   ⟨wband 0 (by decide), weightV (F := Ideal) (fun y => T ((tableRow off1 inb1).idx y)) (View.ld v (wband 0 (by decide)))⟩]

/-- A load of a whole block of a weight. -/
abbrev wholeW : LoadRect S256x1536 := (Rect.unit (s := S256x1536) ![0, 0] ![256, 1536] (by decide)).toLoadRect

/-- A load of a block of a weight after its two stores. -/
theorem read_weight {κ} {sp} (w : View sig κ sp S256x1536 .bf16) (t : Fin 20) (off1 off2 : Fin 3 → ℕ) (inb1 inb2)
    (h1 : off1 = ![t.val, 0, 0]) (h2 : off2 = ![t.val, 1, 0]) (v : Vec Ideal S256x1536 .fp8e4m3) (s : Vec Ideal S40x12 .i8) :
    w.readCov (weightPieces off1 off2 inb1 inb2 (tableB s) v) wholeW = weightB t v s :=
  whole_eq w _ ![128, 1536] _ ⟨weight_piece t 1 off2 inb2 h2 128 rfl (by decide) v s, weight_piece t 0 off1 inb1 h1 0 rfl (by decide) v s, trivial⟩
    (by sl_kernel_rfl)

/-! ### The second weight -/

/-- A block of 256 columns of the second weight widened, at grid point `t`. -/
def downB (t : Fin 20) (v : Vec Ideal S1536x256 .fp8e4m3) (s : Vec Ideal S12x40 .i8) : FVec Ideal S1536x256 .bf16 := fun i =>
  v i * Scale.byteVal (s (ix2 ⟨(i 0).val / 128, by have : (i 0).val < 1536 := (i 0).isLt; omega⟩
    ⟨2 * t.val + (i 1).val / 128, by have : (i 1).val < 256 := (i 1).isLt; omega⟩))

/-- The word of the column that a grid point picks. -/
theorem lane_word : ∀ t : Fin 20, ∀ c : Fin 2,
    Scalar.addi (Scalar.muli (BitVec.ofNat 32 t.val) 2#32) (BitVec.ofNat 32 c.val) = BitVec.ofNat 32 (2 * t.val + c.val) := by decide

/-- Every row of the words can be cut out. -/
theorem slice_row : ∀ f : Fin 12, S12x128.Slices ![f.val, 0] S1x128 := by decide

/-- The place of one block of the second weight. -/
abbrev cell (f : Fin 12) (c : Fin 2) : Rect S1536x256 :=
  Rect.unit (s := S1536x256) ![128 * f.val, 128 * c.val] ![128, 128] (fun a => by
    fin_cases a
    · show 128 * f.val + 128 ≤ 1536
      omega
    · show 128 * c.val + 128 ≤ 256
      omega)

/-- One store of the second weight. -/
abbrev cellStore (a : BitVec 32) (v : Vec Ideal S1536x256 .fp8e4m3) (s : Vec Ideal S12x40 .i8) (f : Fin 12) (c : Fin 2) :
    View.Piece (Elt Ideal) S1536x256 .bf16 :=
  ⟨cell f c, cellV ![f.val, 0] (slice_row f) (laneWords (lane (Scalar.addi (Scalar.muli a 2#32) (BitVec.ofNat 32 c.val)) s)) (View.ld v (cell f c))⟩

/-- A store of a cell of the second weight holds its part of the block. -/
theorem cellStore_of (t : Fin 20) (v : Vec Ideal S1536x256 .fp8e4m3) (s : Vec Ideal S12x40 .i8) (f : Fin 12) (c : Fin 2) (x : S128x128.Idx) :
    (cellStore (BitVec.ofNat 32 t.val) v s f c).2 x = downB t v s ((cell f c).emb x) := by
  idx_vars x
  have e := emb2 (128 * f.val) (128 * c.val) (by
    intro a
    fin_cases a
    · show 128 * f.val + 128 ≤ 1536
      omega
    · show 128 * c.val + 128 ≤ 256
      omega) x0 x1 (⟨128 * f.val + x0.val, by omega⟩ : Fin 1536) (⟨128 * c.val + x1.val, by omega⟩ : Fin 256) rfl rfl
  have l : View.ld v (cell f c) (ix2 x0 x1) = v (ix2 ⟨128 * f.val + x0.val, by omega⟩ ⟨128 * c.val + x1.val, by omega⟩) := by
    show v ((cell f c).emb (ix2 x0 x1)) = _
    rw [e]
  show cellV _ _ _ _ _ = _
  rw [cellV_apply f _ _ _ x0 x1 (s (ix2 f ⟨2 * t.val + c.val, by omega⟩)) (laneWords_apply _ _ _ _ (by
    rw [lane_word t c]
    exact lane_apply ⟨2 * t.val + c.val, by omega⟩ s f)), l, e]
  unfold downB
  congr 4
  · apply Fin.ext
    show f.val = (128 * f.val + x0.val) / 128
    omega
  · apply Fin.ext
    show 2 * t.val + c.val = 2 * t.val + (128 * c.val + x1.val) / 128
    omega

/-- The first `n` stores of the second weight, the last one first. -/
def cellPieces (a : BitVec 32) (v : Vec Ideal S1536x256 .fp8e4m3) (s : Vec Ideal S12x40 .i8) : (n : ℕ) → n ≤ 24 → List (View.Piece (Elt Ideal) S1536x256 .bf16)
  | 0, _ => []
  | n + 1, h => cellStore a v s ⟨n % 12, Nat.mod_lt _ (by decide)⟩ ⟨n / 12, by omega⟩ :: cellPieces a v s n (by omega)

/-- So do all of the first `n` stores. -/
theorem cellPieces_of (t : Fin 20) (v : Vec Ideal S1536x256 .fp8e4m3) (s : Vec Ideal S12x40 .i8) :
    (n : ℕ) → (h : n ≤ 24) → View.PiecesOf (downB t v s) (cellPieces (BitVec.ofNat 32 t.val) v s n h)
  | 0, _ => trivial
  | _ + 1, _ => ⟨cellStore_of t v s _ _, cellPieces_of t v s _ _⟩

/-- A load of a block of the second weight after its stores. -/
theorem read_down {κ} {sp} (w : View sig κ sp S1536x256 .bf16) (t : Fin 20) (v : Vec Ideal S1536x256 .fp8e4m3) (s : Vec Ideal S12x40 .i8) :
    w.readCov (cellPieces (BitVec.ofNat 32 t.val) v s 24 le_rfl) wholeB = downB t v s :=
  whole_eq w _ ![128, 128] _ (cellPieces_of t v s 24 _) (by sl_kernel_rfl)

end Cert.Bands
-- ==== Proof.GridWord.lean ====
module

public import proofs.«01_k».proof.Proof.WeightPieces

/-!
The offsets that the body computes from the grid's point.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target

/-- The grid's point. -/
def pt (i : grid0.Coords) : Fin 20 := i 0

/-- The word of a grid point, read as an index, is the point. -/
theorem grid_word : ∀ t : Fin 20, (Scalar.indexCast (BitVec.ofNat 32 t.val)).toNat = t.val := by decide
/-- Where a point reads its first row of a table. -/
theorem off1_eq (i : grid0.Coords) : k0_off1 i = ![(pt i).val, 0, 0] :=
  congrArg (fun n => ![n, 0, 0]) (grid_word (pt i))

/-- Where a point reads its second row of a table. -/
theorem off2_eq (i : grid0.Coords) : k0_off2 i = ![(pt i).val, 1, 0] :=
  congrArg (fun n => ![n, 1, 0]) (grid_word (pt i))

/-- The stores of a block of a weight where the table is read back from its own stores. -/
def weightPiecesC {κ} {sp} (w : View sig κ sp S20x2x1536 .i32) (off1 off2 : Fin 3 → ℕ) (inb1 : ∀ a, off1 a + S1x1x1536.size a ≤ S20x2x1536.size a)
    (inb2 : ∀ a, off2 a + S1x1x1536.size a ≤ S20x2x1536.size a) (L : List (View.Piece (Elt Ideal) S20x2x1536 .i32))
    (v : Vec Ideal S256x1536 .fp8e4m3) : List (View.Piece (Elt Ideal) S256x1536 .bf16) :=
  [⟨wband 128 (by decide), weightV (F := Ideal) (w.readCov L (tableRow off2 inb2)) (View.ld v (wband 128 (by decide)))⟩,
   ⟨wband 0 (by decide), weightV (F := Ideal) (w.readCov L (tableRow off1 inb1)) (View.ld v (wband 0 (by decide)))⟩]

/-- These stores are the stores of the block with the table's values. -/
theorem weightPiecesC_eq {κ} {sp} (w : View sig κ sp S20x2x1536 .i32) (off1 off2 : Fin 3 → ℕ) (inb1 inb2) (s : Vec Ideal S40x12 .i8)
    (v : Vec Ideal S256x1536 .fp8e4m3) :
    weightPiecesC w off1 off2 inb1 inb2 (tablePieces s 240 le_rfl) v = weightPieces off1 off2 inb1 inb2 (tableB s) v := by
  simp only [weightPiecesC, weightPieces, read_table]
  rfl

end Cert.KernelIdeal.Gen
-- ==== Proof.Blocks.lean ====
module

public import proofs.«01_k».proof.Proof.Held
public import proofs.«01_k».proof.Proof.GridWord

/-!
The blocks of the arguments that a grid point reads, as functions of the argument arrays.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

/-- The 256 columns of an array that grid point `t` reads. -/
def colsAt {e} (t : Fin 20) (a : Vec Ideal S1536x5120 e) : Vec Ideal S1536x256 e := fun i =>
  a (ix2 (i 0) ⟨256 * t.val + (i 1).val, by have : (i 1).val < 256 := (i 1).isLt; omega⟩)

/-- The 256 rows of an array that grid point `t` reads. -/
def rowsAt {e} (t : Fin 20) (a : Vec Ideal S5120x1536 e) : Vec Ideal S256x1536 e := fun i =>
  a (ix2 ⟨256 * t.val + (i 0).val, by have : (i 0).val < 256 := (i 0).isLt; omega⟩ (i 1))

/-- The first 1152 rows of an array. -/
def topRows {e} (a : Vec Ideal S1536x1536 e) : Vec Ideal S1152x1536 e := fun i =>
  a (ix2 ⟨(i 0).val, by have : (i 0).val < 1152 := (i 0).isLt; omega⟩ (i 1))

variable (m : (ℓ : Loc nD τ sig) → Buf (Elt Ideal) ℓ)

/-- The grid's point at position `t` is `t`. -/
theorem pt_coords : ∀ t : Fin cfg0.N, (pt (grid0.coords t)).val = t.val :=
  (by decide +kernel : ∀ t : Fin grid0.N, _)

/-- Which block of argument 0 each grid point reads. -/
theorem idx0 : ∀ t : Fin cfg0.N, win0_0.index t (0 : Fin 2) = 0 ∧ win0_0.index t (1 : Fin 2) = (pt (grid0.coords t)).val :=
  (by decide +kernel : ∀ t : Fin grid0.N, _)

/-- What window 0 holds at a point. -/
theorem iblk0_eq (c : Dev nD) (t : Fin cfg0.N) : iblk m c 0 t = colsAt (pt (grid0.coords t)) (V m c main_arg0) := by
  obtain ⟨e0, e1⟩ := idx0 t
  funext j
  show V m c main_arg0 (((cfg0.win 0).blk t).view.emb j) = V m c main_arg0 _
  congr 1
  funext a; apply Fin.ext
  match a with
  | ⟨0, _⟩ => show win0_0.index t (0 : Fin 2) * 1536 + 1 * (j 0).val = (j 0).val; omega
  | ⟨1, _⟩ => show win0_0.index t (1 : Fin 2) * 256 + 1 * (j 1).val = 256 * (pt (grid0.coords t)).val + (j 1).val; omega

/-- Which block of argument 1 each grid point reads. -/
theorem idx1 : ∀ t : Fin cfg0.N, win0_1.index t (0 : Fin 2) = 0 ∧ win0_1.index t (1 : Fin 2) = (pt (grid0.coords t)).val :=
  (by decide +kernel : ∀ t : Fin grid0.N, _)

/-- What window 1 holds at a point. -/
theorem iblk1_eq (c : Dev nD) (t : Fin cfg0.N) : iblk m c 1 t = colsAt (pt (grid0.coords t)) (V m c main_arg1) := by
  obtain ⟨e0, e1⟩ := idx1 t
  funext j
  show V m c main_arg1 (((cfg0.win 1).blk t).view.emb j) = V m c main_arg1 _
  congr 1
  funext a; apply Fin.ext
  match a with
  | ⟨0, _⟩ => show win0_1.index t (0 : Fin 2) * 1536 + 1 * (j 0).val = (j 0).val; omega
  | ⟨1, _⟩ => show win0_1.index t (1 : Fin 2) * 256 + 1 * (j 1).val = 256 * (pt (grid0.coords t)).val + (j 1).val; omega

/-- Which block of argument 2 each grid point reads. -/
theorem idx2 : ∀ t : Fin cfg0.N, win0_2.index t (1 : Fin 2) = 0 ∧ win0_2.index t (0 : Fin 2) = (pt (grid0.coords t)).val :=
  (by decide +kernel : ∀ t : Fin grid0.N, _)

/-- What window 2 holds at a point. -/
theorem iblk2_eq (c : Dev nD) (t : Fin cfg0.N) : iblk m c 2 t = rowsAt (pt (grid0.coords t)) (V m c main_arg2) := by
  obtain ⟨e0, e1⟩ := idx2 t
  funext j
  show V m c main_arg2 (((cfg0.win 2).blk t).view.emb j) = V m c main_arg2 _
  congr 1
  funext a; apply Fin.ext
  match a with
  | ⟨1, _⟩ => show win0_2.index t (1 : Fin 2) * 1536 + 1 * (j 1).val = (j 1).val; omega
  | ⟨0, _⟩ => show win0_2.index t (0 : Fin 2) * 256 + 1 * (j 0).val = 256 * (pt (grid0.coords t)).val + (j 0).val; omega

/-- Which block of argument 3 each grid point reads. -/
theorem idx3 : ∀ t : Fin cfg0.N, win0_3.index t (1 : Fin 2) = 0 ∧ win0_3.index t (0 : Fin 2) = (pt (grid0.coords t)).val :=
  (by decide +kernel : ∀ t : Fin grid0.N, _)

/-- What window 3 holds at a point. -/
theorem iblk3_eq (c : Dev nD) (t : Fin cfg0.N) : iblk m c 3 t = rowsAt (pt (grid0.coords t)) (V m c main_arg4) := by
  obtain ⟨e0, e1⟩ := idx3 t
  funext j
  show V m c main_arg4 (((cfg0.win 3).blk t).view.emb j) = V m c main_arg4 _
  congr 1
  funext a; apply Fin.ext
  match a with
  | ⟨1, _⟩ => show win0_3.index t (1 : Fin 2) * 1536 + 1 * (j 1).val = (j 1).val; omega
  | ⟨0, _⟩ => show win0_3.index t (0 : Fin 2) * 256 + 1 * (j 0).val = 256 * (pt (grid0.coords t)).val + (j 0).val; omega

/-- Which block of argument 4 each grid point reads. -/
theorem idx4 : ∀ t : Fin cfg0.N, win0_4.index t (0 : Fin 2) = 0 ∧ win0_4.index t (1 : Fin 2) = (pt (grid0.coords t)).val :=
  (by decide +kernel : ∀ t : Fin grid0.N, _)

/-- What window 4 holds at a point. -/
theorem iblk4_eq (c : Dev nD) (t : Fin cfg0.N) : iblk m c 4 t = colsAt (pt (grid0.coords t)) (V m c main_arg6) := by
  obtain ⟨e0, e1⟩ := idx4 t
  funext j
  show V m c main_arg6 (((cfg0.win 4).blk t).view.emb j) = V m c main_arg6 _
  congr 1
  funext a; apply Fin.ext
  match a with
  | ⟨0, _⟩ => show win0_4.index t (0 : Fin 2) * 1536 + 1 * (j 0).val = (j 0).val; omega
  | ⟨1, _⟩ => show win0_4.index t (1 : Fin 2) * 256 + 1 * (j 1).val = 256 * (pt (grid0.coords t)).val + (j 1).val; omega

/-- Which block of argument 5 each grid point reads. -/
theorem idx5 : ∀ t : Fin cfg0.N, win0_5.index t (0 : Fin 2) = 0 ∧ win0_5.index t (1 : Fin 2) = 0 :=
  (by decide +kernel : ∀ t : Fin grid0.N, _)

/-- Window 5 holds its whole array. -/
theorem iblk5_eq (c : Dev nD) (t : Fin cfg0.N) : iblk m c 5 t = V m c main_arg3 := by
  obtain ⟨e0, e1⟩ := idx5 t
  funext j
  show V m c main_arg3 (((cfg0.win 5).blk t).view.emb j) = V m c main_arg3 j
  congr 1
  funext a; apply Fin.ext
  match a with
  | ⟨0, _⟩ => show win0_5.index t (0 : Fin 2) * 40 + 1 * (j 0).val = (j 0).val; omega
  | ⟨1, _⟩ => show win0_5.index t (1 : Fin 2) * 12 + 1 * (j 1).val = (j 1).val; omega

/-- Which block of argument 6 each grid point reads. -/
theorem idx6 : ∀ t : Fin cfg0.N, win0_6.index t (0 : Fin 2) = 0 ∧ win0_6.index t (1 : Fin 2) = 0 :=
  (by decide +kernel : ∀ t : Fin grid0.N, _)

/-- Window 6 holds its whole array. -/
theorem iblk6_eq (c : Dev nD) (t : Fin cfg0.N) : iblk m c 6 t = V m c main_arg5 := by
  obtain ⟨e0, e1⟩ := idx6 t
  funext j
  show V m c main_arg5 (((cfg0.win 6).blk t).view.emb j) = V m c main_arg5 j
  congr 1
  funext a; apply Fin.ext
  match a with
  | ⟨0, _⟩ => show win0_6.index t (0 : Fin 2) * 40 + 1 * (j 0).val = (j 0).val; omega
  | ⟨1, _⟩ => show win0_6.index t (1 : Fin 2) * 12 + 1 * (j 1).val = (j 1).val; omega

/-- Which block of argument 7 each grid point reads. -/
theorem idx7 : ∀ t : Fin cfg0.N, win0_7.index t (0 : Fin 2) = 0 ∧ win0_7.index t (1 : Fin 2) = 0 :=
  (by decide +kernel : ∀ t : Fin grid0.N, _)

/-- Window 7 holds its whole array. -/
theorem iblk7_eq (c : Dev nD) (t : Fin cfg0.N) : iblk m c 7 t = V m c main_arg7 := by
  obtain ⟨e0, e1⟩ := idx7 t
  funext j
  show V m c main_arg7 (((cfg0.win 7).blk t).view.emb j) = V m c main_arg7 j
  congr 1
  funext a; apply Fin.ext
  match a with
  | ⟨0, _⟩ => show win0_7.index t (0 : Fin 2) * 12 + 1 * (j 0).val = (j 0).val; omega
  | ⟨1, _⟩ => show win0_7.index t (1 : Fin 2) * 40 + 1 * (j 1).val = (j 1).val; omega

/-- Which block of argument 11 each grid point reads. -/
theorem idx11 : ∀ t : Fin cfg0.N, win0_11.index t (0 : Fin 2) = 0 ∧ win0_11.index t (1 : Fin 2) = 0 :=
  (by decide +kernel : ∀ t : Fin grid0.N, _)

/-- Window 11 holds its whole array. -/
theorem iblk11_eq (c : Dev nD) (t : Fin cfg0.N) : iblk m c 11 t = V m c main_arg11 := by
  obtain ⟨e0, e1⟩ := idx11 t
  funext j
  show V m c main_arg11 (((cfg0.win 11).blk t).view.emb j) = V m c main_arg11 j
  congr 1
  funext a; apply Fin.ext
  match a with
  | ⟨0, _⟩ => show win0_11.index t (0 : Fin 2) * 1536 + 1 * (j 0).val = (j 0).val; omega
  | ⟨1, _⟩ => show win0_11.index t (1 : Fin 2) * 1536 + 1 * (j 1).val = (j 1).val; omega

/-- Which block of argument 12 each grid point reads. -/
theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

/-- Window 12 holds its whole array. -/
theorem iblk12_eq (c : Dev nD) (t : Fin cfg0.N) : iblk m c 12 t = V m c main_arg12 := by
  obtain ⟨e0, e1, e2⟩ := idx12 t
  funext j
  show V m c main_arg12 (((cfg0.win 12).blk t).view.emb j) = V m c main_arg12 j
  congr 1
  funext a; apply Fin.ext
  match a with
  | ⟨0, _⟩ => show win0_12.index t (0 : Fin 3) * 6 + 1 * (j 0).val = (j 0).val; omega
  | ⟨1, _⟩ => show win0_12.index t (1 : Fin 3) * 2 + 1 * (j 1).val = (j 1).val; omega
  | ⟨2, _⟩ => show win0_12.index t (2 : Fin 3) * 1536 + 1 * (j 2).val = (j 2).val; omega

/-- Which block of argument 13 each grid point reads. -/
theorem idx13 : ∀ t : Fin cfg0.N, win0_13.index t (0 : Fin 2) = 0 ∧ win0_13.index t (1 : Fin 2) = 0 :=
  (by decide +kernel : ∀ t : Fin grid0.N, _)

/-- Window 13 holds its whole array. -/
theorem iblk13_eq (c : Dev nD) (t : Fin cfg0.N) : iblk m c 13 t = V m c main_arg13 := by
  obtain ⟨e0, e1⟩ := idx13 t
  funext j
  show V m c main_arg13 (((cfg0.win 13).blk t).view.emb j) = V m c main_arg13 j
  congr 1
  funext a; apply Fin.ext
  match a with
  | ⟨0, _⟩ => show win0_13.index t (0 : Fin 2) * 1536 + 1 * (j 0).val = (j 0).val; omega
  | ⟨1, _⟩ => show win0_13.index t (1 : Fin 2) * 1536 + 1 * (j 1).val = (j 1).val; omega

/-- Which block of argument 14 each grid point reads. -/
theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

/-- Window 14 holds its whole array. -/
theorem iblk14_eq (c : Dev nD) (t : Fin cfg0.N) : iblk m c 14 t = V m c main_arg14 := by
  obtain ⟨e0, e1, e2⟩ := idx14 t
  funext j
  show V m c main_arg14 (((cfg0.win 14).blk t).view.emb j) = V m c main_arg14 j
  congr 1
  funext a; apply Fin.ext
  match a with
  | ⟨0, _⟩ => show win0_14.index t (0 : Fin 3) * 6 + 1 * (j 0).val = (j 0).val; omega
  | ⟨1, _⟩ => show win0_14.index t (1 : Fin 3) * 2 + 1 * (j 1).val = (j 1).val; omega
  | ⟨2, _⟩ => show win0_14.index t (2 : Fin 3) * 1536 + 1 * (j 2).val = (j 2).val; omega

/-- Which block of argument 15 each grid point reads. -/
theorem idx15 : ∀ t : Fin cfg0.N, win0_15.index t (0 : Fin 2) = 0 ∧ win0_15.index t (1 : Fin 2) = 0 :=
  (by decide +kernel : ∀ t : Fin grid0.N, _)

/-- Window 15 holds its whole array. -/
theorem iblk15_eq (c : Dev nD) (t : Fin cfg0.N) : iblk m c 15 t = V m c main_arg15 := by
  obtain ⟨e0, e1⟩ := idx15 t
  funext j
  show V m c main_arg15 (((cfg0.win 15).blk t).view.emb j) = V m c main_arg15 j
  congr 1
  funext a; apply Fin.ext
  match a with
  | ⟨0, _⟩ => show win0_15.index t (0 : Fin 2) * 1536 + 1 * (j 0).val = (j 0).val; omega
  | ⟨1, _⟩ => show win0_15.index t (1 : Fin 2) * 1536 + 1 * (j 1).val = (j 1).val; omega

/-- Which block of argument 16 each grid point reads. -/
theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)

/-- Window 16 holds its whole array. -/
theorem iblk16_eq (c : Dev nD) (t : Fin cfg0.N) : iblk m c 16 t = V m c main_arg16 := by
  obtain ⟨e0, e1, e2⟩ := idx16 t
  funext j
  show V m c main_arg16 (((cfg0.win 16).blk t).view.emb j) = V m c main_arg16 j
  congr 1
  funext a; apply Fin.ext
  match a with
  | ⟨0, _⟩ => show win0_16.index t (0 : Fin 3) * 6 + 1 * (j 0).val = (j 0).val; omega
  | ⟨1, _⟩ => show win0_16.index t (1 : Fin 3) * 2 + 1 * (j 1).val = (j 1).val; omega
  | ⟨2, _⟩ => show win0_16.index t (2 : Fin 3) * 1536 + 1 * (j 2).val = (j 2).val; omega

/-- Which block of argument 8 each grid point reads. -/
theorem idx8 : ∀ t : Fin cfg0.N, win0_8.index t (0 : Fin 2) = 0 ∧ win0_8.index t (1 : Fin 2) = 0 :=
  (by decide +kernel : ∀ t : Fin grid0.N, _)

/-- Window 8 holds the first rows of its array. -/
theorem X8_eq (c : Dev nD) (t : Fin cfg0.N) : X0_8 m c t = topRows (V m c main_arg8) := by
  obtain ⟨e0, e1⟩ := idx8 t
  funext j
  unfold X0_8 Pipeline.Window.fill
  rw [dif_pos (moved0_8 t j)]
  show V m c main_arg8 (((cfg0.win 8).blk t).view.emb _) = V m c main_arg8 _
  congr 1
  funext a; apply Fin.ext
  match a with
  | ⟨0, _⟩ => show win0_8.index t (0 : Fin 2) * 1152 + 1 * (j 0).val = (j 0).val; omega
  | ⟨1, _⟩ => show win0_8.index t (1 : Fin 2) * 1536 + 1 * (j 1).val = (j 1).val; omega

/-- Which block of argument 9 each grid point reads. -/
theorem idx9 : ∀ t : Fin cfg0.N, win0_9.index t (0 : Fin 2) = 0 ∧ win0_9.index t (1 : Fin 2) = 0 :=
  (by decide +kernel : ∀ t : Fin grid0.N, _)

/-- Window 9 holds the first rows of its array. -/
theorem X9_eq (c : Dev nD) (t : Fin cfg0.N) : X0_9 m c t = topRows (V m c main_arg9) := by
  obtain ⟨e0, e1⟩ := idx9 t
  funext j
  unfold X0_9 Pipeline.Window.fill
  rw [dif_pos (moved0_9 t j)]
  show V m c main_arg9 (((cfg0.win 9).blk t).view.emb _) = V m c main_arg9 _
  congr 1
  funext a; apply Fin.ext
  match a with
  | ⟨0, _⟩ => show win0_9.index t (0 : Fin 2) * 1152 + 1 * (j 0).val = (j 0).val; omega
  | ⟨1, _⟩ => show win0_9.index t (1 : Fin 2) * 1536 + 1 * (j 1).val = (j 1).val; omega

/-- Which block of argument 10 each grid point reads. -/
theorem idx10 : ∀ t : Fin cfg0.N, win0_10.index t (0 : Fin 2) = 0 ∧ win0_10.index t (1 : Fin 2) = 0 :=
  (by decide +kernel : ∀ t : Fin grid0.N, _)

/-- Window 10 holds the first rows of its array. -/
theorem X10_eq (c : Dev nD) (t : Fin cfg0.N) : X0_10 m c t = topRows (V m c main_arg10) := by
  obtain ⟨e0, e1⟩ := idx10 t
  funext j
  unfold X0_10 Pipeline.Window.fill
  rw [dif_pos (moved0_10 t j)]
  show V m c main_arg10 (((cfg0.win 10).blk t).view.emb _) = V m c main_arg10 _
  congr 1
  funext a; apply Fin.ext
  match a with
  | ⟨0, _⟩ => show win0_10.index t (0 : Fin 2) * 1152 + 1 * (j 0).val = (j 0).val; omega
  | ⟨1, _⟩ => show win0_10.index t (1 : Fin 2) * 1536 + 1 * (j 1).val = (j 1).val; omega

end Cert.KernelIdeal.Gen
-- ==== Proof.FirstStep.lean ====
module

public import proofs.«01_k».proof.Proof.HeldFirst
public import proofs.«01_k».proof.Proof.BlockPieces

/-!
What the body leaves at the grid's first point, as arrays of plain mathematics.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : cond0_0 i)
    (x0 : Vec Ideal S1536x256 .bf16) (x1 : Vec Ideal S1536x256 .bf16) (x2 : Vec Ideal S256x1536 .fp8e4m3) (x3 : Vec Ideal S256x1536 .fp8e4m3) (x4 : Vec Ideal S1536x256 .fp8e4m3) (x5 : Vec Ideal S40x12 .i8) (x6 : Vec Ideal S40x12 .i8) (x7 : Vec Ideal S12x40 .i8) (x8 : Vec Ideal S1152x1536 .bf16) (x9 : Vec Ideal S1152x1536 .bf16) (x10 : Vec Ideal S1152x1536 .bf16) (x11 : Vec Ideal S1536x1536 .fp8e4m3) (x12 : Vec Ideal S6x2x1536 .i8) (x13 : Vec Ideal S1536x1536 .fp8e4m3) (x14 : Vec Ideal S6x2x1536 .i8) (x15 : Vec Ideal S1536x1536 .fp8e4m3) (x16 : Vec Ideal S6x2x1536 .i8)

/-- What is carried on: the hidden codes widened and turned. -/
theorem sout0_A_0_eq :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = unqT x11 x12 := by
  frame_open
  simp (disch := decide) only [↓ View.readCov_skip, ↓ View.readCov_cons_toLoadRect, ↓ View.readCov_fill]
  frame_out
  refine Eq.trans (b := View.canon (turnedPieces x11 x12)) (by sl_kernel_rfl) (turnedPieces_canon ..)

/-- What is carried on: the first gradient's codes widened. -/
theorem sout0_A_1_eq :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = unqB x13 x14 := by
  frame_open
  simp (disch := decide) only [↓ View.readCov_skip, ↓ View.readCov_cons_toLoadRect, ↓ View.readCov_fill]
  frame_out
  refine Eq.trans (b := View.canon (bandPieces x13 x14)) (by sl_kernel_rfl) (bandPieces_canon ..)

/-- What is carried on: the second gradient's codes widened. -/
theorem sout0_A_2_eq :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = unqB x15 x16 := by
  frame_open
  simp (disch := decide) only [↓ View.readCov_skip, ↓ View.readCov_cons_toLoadRect, ↓ View.readCov_fill]
  frame_out
  refine Eq.trans (b := View.canon (bandPieces x15 x16)) (by sl_kernel_rfl) (bandPieces_canon ..)

/-- The codes of `x`'s block of columns. -/
theorem out0_A_22_eq :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = codesB x0 := by
  frame_open
  simp (disch := decide) only [↓ View.readCov_skip, ↓ View.readCov_cons_toLoadRect, ↓ View.readCov_fill]
  frame_out
  refine Eq.trans (b := View.canon (codePieces x0)) (by sl_kernel_rfl) (codePieces_canon ..)

/-- The bytes of `x`'s block of columns. -/
theorem out0_A_23_eq :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = bytesB x0 := by
  frame_open
  simp (disch := decide) only [↓ View.readCov_skip, ↓ View.readCov_cons_toLoadRect, ↓ View.readCov_fill]
  frame_out
  refine Eq.trans (b := View.canon (bytePieces x0)) (by sl_kernel_rfl) (bytePieces_canon ..)

/-- The codes of `dy`'s block of columns. -/
theorem out0_A_24_eq :
    out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = codesB x1 := by
  frame_open
  simp (disch := decide) only [↓ View.readCov_skip, ↓ View.readCov_cons_toLoadRect, ↓ View.readCov_fill]
  frame_out
  refine Eq.trans (b := View.canon (codePieces x1)) (by sl_kernel_rfl) (codePieces_canon ..)

/-- The bytes of `dy`'s block of columns. -/
theorem out0_A_25_eq :
    out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = bytesB x1 := by
  frame_open
  simp (disch := decide) only [↓ View.readCov_skip, ↓ View.readCov_cons_toLoadRect, ↓ View.readCov_fill]
  frame_out
  refine Eq.trans (b := View.canon (bytePieces x1)) (by sl_kernel_rfl) (bytePieces_canon ..)

/-- The block of `dw1`. -/
theorem out0_A_19_eq :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = k0_pay904 (F := Ideal) (wideB x0) (unqB x13 x14) := by
  frame_open
  simp (disch := decide) only [↓ View.readCov_skip, ↓ View.readCov_cons_toLoadRect, ↓ View.readCov_fill]
  frame_out
  refine Eq.trans (b := k0_pay904 (F := Ideal) (arg35.view.readCov (widePieces x0) wholeB) (arg30.view.readCov (bandPieces x13 x14) wholeQ)) (by sl_kernel_rfl) ?_
  rw [read_wide, read_band]

/-- The block of `dw3`. -/
theorem out0_A_20_eq :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = k0_pay1 (F := Ideal) (wideB x0) (unqB x15 x16) := by
  frame_open
  simp (disch := decide) only [↓ View.readCov_skip, ↓ View.readCov_cons_toLoadRect, ↓ View.readCov_fill]
  frame_out
  refine Eq.trans (b := k0_pay1 (F := Ideal) (arg35.view.readCov (widePieces x0) wholeB) (arg31.view.readCov (bandPieces x15 x16) wholeQ)) (by sl_kernel_rfl) ?_
  rw [read_wide, read_band]

/-- The block of `dw2`. -/
theorem out0_A_21_eq :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = k0_pay903 (F := Ideal) (unqT x11 x12) (wideB x1) := by
  frame_open
  simp (disch := decide) only [↓ View.readCov_skip, ↓ View.readCov_cons_toLoadRect, ↓ View.readCov_fill]
  frame_out
  refine Eq.trans (b := k0_pay903 (F := Ideal) (arg29.view.readCov (turnedPieces x11 x12) wholeQ) (arg36.view.readCov (widePieces x1) wholeB)) (by sl_kernel_rfl) ?_
  rw [read_turned, read_wide]

end

end Cert.KernelIdeal.Gen
-- ==== Proof.FirstTables.lean ====
module

public import proofs.«01_k».proof.Proof.HeldFirst
public import proofs.«01_k».proof.Proof.WeightPieces

/-!
What the body leaves at the first point in the two tables of words.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : cond0_0 i)
    (x0 : Vec Ideal S1536x256 .bf16) (x1 : Vec Ideal S1536x256 .bf16) (x2 : Vec Ideal S256x1536 .fp8e4m3) (x3 : Vec Ideal S256x1536 .fp8e4m3) (x4 : Vec Ideal S1536x256 .fp8e4m3) (x5 : Vec Ideal S40x12 .i8) (x6 : Vec Ideal S40x12 .i8) (x7 : Vec Ideal S12x40 .i8) (x8 : Vec Ideal S1152x1536 .bf16) (x9 : Vec Ideal S1152x1536 .bf16) (x10 : Vec Ideal S1152x1536 .bf16) (x11 : Vec Ideal S1536x1536 .fp8e4m3) (x12 : Vec Ideal S6x2x1536 .i8) (x13 : Vec Ideal S1536x1536 .fp8e4m3) (x14 : Vec Ideal S6x2x1536 .i8) (x15 : Vec Ideal S1536x1536 .fp8e4m3) (x16 : Vec Ideal S6x2x1536 .i8)

/-- What is carried on: the first weight's table. -/
theorem sout0_A_8_eq :
    sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = tableB x5 := by
  frame_open
  simp (disch := decide) only [↓ View.readCov_skip, ↓ View.readCov_cons_toLoadRect, ↓ View.readCov_fill]
  frame_out
  refine Eq.trans (b := View.canon (tablePieces x5 240 le_rfl)) (by sl_kernel_rfl) (table_canon ..)

/-- What is carried on: the third weight's table. -/
theorem sout0_A_9_eq :
    sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = tableB x6 := by
  frame_open
  simp (disch := decide) only [↓ View.readCov_skip, ↓ View.readCov_cons_toLoadRect, ↓ View.readCov_fill]
  frame_out
  refine Eq.trans (b := View.canon (tablePieces x6 240 le_rfl)) (by sl_kernel_rfl) (table_canon ..)

end

end Cert.KernelIdeal.Gen
-- ==== Proof.FirstRows.lean ====
module

public import proofs.«01_k».proof.Proof.HeldFirst
public import proofs.«01_k».proof.Proof.WeightPieces
public import proofs.«01_k».proof.Proof.GridWord

/-!
What the body leaves at the first point of the rows of `y` and `dx`.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : cond0_0 i)
    (x0 : Vec Ideal S1536x256 .bf16) (x1 : Vec Ideal S1536x256 .bf16) (x2 : Vec Ideal S256x1536 .fp8e4m3) (x3 : Vec Ideal S256x1536 .fp8e4m3) (x4 : Vec Ideal S1536x256 .fp8e4m3) (x5 : Vec Ideal S40x12 .i8) (x6 : Vec Ideal S40x12 .i8) (x7 : Vec Ideal S12x40 .i8) (x8 : Vec Ideal S1152x1536 .bf16) (x9 : Vec Ideal S1152x1536 .bf16) (x10 : Vec Ideal S1152x1536 .bf16) (x11 : Vec Ideal S1536x1536 .fp8e4m3) (x12 : Vec Ideal S6x2x1536 .i8) (x13 : Vec Ideal S1536x1536 .fp8e4m3) (x14 : Vec Ideal S6x2x1536 .i8) (x15 : Vec Ideal S1536x1536 .fp8e4m3) (x16 : Vec Ideal S6x2x1536 .i8)

/-- The block of `y`. -/
theorem out0_A_17_eq :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = k0_pay721 (F := Ideal) x8 (downB (pt i) x4 x7) := by
  frame_open
  simp (disch := decide) only [↓ View.readCov_skip, ↓ View.readCov_cons_toLoadRect, ↓ View.readCov_fill]
  frame_out
  refine Eq.trans (b := k0_pay721 (F := Ideal) x8 (arg34.view.readCov (cellPieces (BitVec.ofNat 32 (pt i).val) x4 x7 24 le_rfl) wholeB)) (by sl_kernel_rfl) ?_
  rw [read_down]

/-- The block of `dx`. -/
theorem out0_A_18_eq :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 = k0_pay845 (F := Ideal) (k0_pay843 (F := Ideal) x9 (weightB (pt i) x2 x5)) (k0_pay844 (F := Ideal) x10 (weightB (pt i) x3 x6)) := by
  frame_open
  refine Eq.trans (b := View.read (Elt Idealize.ShloMosaic.Ideal) VO0_18 (VO0_18.writes (Elt Idealize.ShloMosaic.Ideal) VO0_18.junk [⟨Rect.unit (s := S1152x256) ![0, 0] S1152x256.size (by decide), k0_pay845 (F := Ideal) (k0_pay843 (F := Ideal) (View.readAt (Elt Idealize.ShloMosaic.Ideal) arg10.view (Rect.unit (s := S1152x1536) ![0, 0] S1152x1536.size (by decide)).toLoadRect (harg10.unread x9)) (arg32.view.readCov (weightPiecesC arg37.view (k0_off1 i) (k0_off2 i) (k0_off1_inb i) (k0_off2_inb i) (tablePieces (View.readAt (Elt Idealize.ShloMosaic.Ideal) arg6.view (Rect.unit (s := S40x12) ![0, 0] S40x12.size (by decide)).toLoadRect (harg6.unread x5)) 240 le_rfl) (View.read (Elt Idealize.ShloMosaic.Ideal) arg3.view (harg3.unread x2))) wholeW)) (k0_pay844 (F := Ideal) (View.readAt (Elt Idealize.ShloMosaic.Ideal) arg11.view (Rect.unit (s := S1152x1536) ![0, 0] S1152x1536.size (by decide)).toLoadRect (harg11.unread x10)) (arg33.view.readCov (weightPiecesC arg38.view (k0_off1 i) (k0_off2 i) (k0_off1_inb i) (k0_off2_inb i) (tablePieces (View.readAt (Elt Idealize.ShloMosaic.Ideal) arg7.view (Rect.unit (s := S40x12) ![0, 0] S40x12.size (by decide)).toLoadRect (harg7.unread x6)) 240 le_rfl) (View.read (Elt Idealize.ShloMosaic.Ideal) arg4.view (harg4.unread x3))) wholeW))⟩])) (by sl_kernel_rfl) ?_
  rw [weightPiecesC_eq, weightPiecesC_eq, read_weight _ (pt i) _ _ _ _ (off1_eq i) (off2_eq i), read_weight _ (pt i) _ _ _ _ (off1_eq i) (off2_eq i)]
  frame_out

end

end Cert.KernelIdeal.Gen
-- ==== Proof.LaterSteps.lean ====
module

public import proofs.«01_k».proof.Proof.HeldLater
public import proofs.«01_k».proof.Proof.BlockPieces

/-!
What the body leaves at the grid's later points, as arrays of plain mathematics of its blocks and of what is carried on.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec Ideal S1536x256 .bf16) (x1 : Vec Ideal S1536x256 .bf16) (x2 : Vec Ideal S256x1536 .fp8e4m3) (x3 : Vec Ideal S256x1536 .fp8e4m3) (x4 : Vec Ideal S1536x256 .fp8e4m3) (x5 : Vec Ideal S40x12 .i8) (x6 : Vec Ideal S40x12 .i8) (x7 : Vec Ideal S12x40 .i8) (x8 : Vec Ideal S1152x1536 .bf16) (x9 : Vec Ideal S1152x1536 .bf16) (x10 : Vec Ideal S1152x1536 .bf16) (x11 : Vec Ideal S1536x1536 .fp8e4m3) (x12 : Vec Ideal S6x2x1536 .i8) (x13 : Vec Ideal S1536x1536 .fp8e4m3) (x14 : Vec Ideal S6x2x1536 .i8) (x15 : Vec Ideal S1536x1536 .fp8e4m3) (x16 : Vec Ideal S6x2x1536 .i8) (xs0 : Vec Ideal S1536x1536 .bf16) (xs1 : Vec Ideal S1536x1536 .bf16) (xs2 : Vec Ideal S1536x1536 .bf16) (xs8 : Vec Ideal S20x2x1536 .i32) (xs9 : Vec Ideal S20x2x1536 .i32)

/-- The codes of `x`'s block of columns. -/
theorem out0_B_22_eq :
    out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = codesB x0 := by
  frame_open
  simp (disch := decide) only [↓ View.readCov_skip, ↓ View.readCov_cons_toLoadRect, ↓ View.readCov_fill]
  frame_out
  refine Eq.trans (b := View.canon (codePieces x0)) (by sl_kernel_rfl) (codePieces_canon ..)

/-- The bytes of `x`'s block of columns. -/
theorem out0_B_23_eq :
    out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = bytesB x0 := by
  frame_open
  simp (disch := decide) only [↓ View.readCov_skip, ↓ View.readCov_cons_toLoadRect, ↓ View.readCov_fill]
  frame_out
  refine Eq.trans (b := View.canon (bytePieces x0)) (by sl_kernel_rfl) (bytePieces_canon ..)

/-- The codes of `dy`'s block of columns. -/
theorem out0_B_24_eq :
    out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = codesB x1 := by
  frame_open
  simp (disch := decide) only [↓ View.readCov_skip, ↓ View.readCov_cons_toLoadRect, ↓ View.readCov_fill]
  frame_out
  refine Eq.trans (b := View.canon (codePieces x1)) (by sl_kernel_rfl) (codePieces_canon ..)

/-- The bytes of `dy`'s block of columns. -/
theorem out0_B_25_eq :
    out0_B_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = bytesB x1 := by
  frame_open
  simp (disch := decide) only [↓ View.readCov_skip, ↓ View.readCov_cons_toLoadRect, ↓ View.readCov_fill]
  frame_out
  refine Eq.trans (b := View.canon (bytePieces x1)) (by sl_kernel_rfl) (bytePieces_canon ..)

/-- The block of `dw1`. -/
theorem out0_B_19_eq :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = k0_pay904 (F := Ideal) (wideB x0) xs1 := by
  frame_open
  simp (disch := decide) only [↓ View.readCov_skip, ↓ View.readCov_cons_toLoadRect, ↓ View.readCov_fill]
  frame_out
  refine Eq.trans (b := k0_pay904 (F := Ideal) (arg35.view.readCov (widePieces x0) wholeB) (xs1)) (by sl_kernel_rfl) ?_
  rw [read_wide]

/-- The block of `dw3`. -/
theorem out0_B_20_eq :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = k0_pay1 (F := Ideal) (wideB x0) xs2 := by
  frame_open
  simp (disch := decide) only [↓ View.readCov_skip, ↓ View.readCov_cons_toLoadRect, ↓ View.readCov_fill]
  frame_out
  refine Eq.trans (b := k0_pay1 (F := Ideal) (arg35.view.readCov (widePieces x0) wholeB) (xs2)) (by sl_kernel_rfl) ?_
  rw [read_wide]

/-- The block of `dw2`. -/
theorem out0_B_21_eq :
    out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 xs8 xs9 = k0_pay903 (F := Ideal) xs0 (wideB x1) := by
  frame_open
  simp (disch := decide) only [↓ View.readCov_skip, ↓ View.readCov_cons_toLoadRect, ↓ View.readCov_fill]
  frame_out
  refine Eq.trans (b := k0_pay903 (F := Ideal) (xs0) (arg36.view.readCov (widePieces x1) wholeB)) (by sl_kernel_rfl) ?_
  rw [read_wide]

end

end Cert.KernelIdeal.Gen
-- ==== Proof.LaterRows.lean ====
module

public import proofs.«01_k».proof.Proof.HeldLater
public import proofs.«01_k».proof.Proof.WeightPieces
public import proofs.«01_k».proof.Proof.GridWord

/-!
What the body leaves at the later points of the rows of `y` and `dx`.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target

section

variable (c : Dev nD) (i : grid0.Coords) (arg1 : Memref sig .tc .vmem S1536x256 .bf16) (harg1 : arg1.IsWhole) (arg2 : Memref sig .tc .vmem S1536x256 .bf16) (harg2 : arg2.IsWhole) (arg3 : Memref sig .tc .vmem S256x1536 .fp8e4m3) (harg3 : arg3.IsWhole) (arg4 : Memref sig .tc .vmem S256x1536 .fp8e4m3) (harg4 : arg4.IsWhole) (arg5 : Memref sig .tc .vmem S1536x256 .fp8e4m3) (harg5 : arg5.IsWhole) (arg6 : Memref sig .tc .vmem S40x12 .i8) (harg6 : arg6.IsWhole) (arg7 : Memref sig .tc .vmem S40x12 .i8) (harg7 : arg7.IsWhole) (arg8 : Memref sig .tc .vmem S12x40 .i8) (harg8 : arg8.IsWhole) (arg9 : Memref sig .tc .vmem S1152x1536 .bf16) (harg9 : arg9.IsWhole) (arg10 : Memref sig .tc .vmem S1152x1536 .bf16) (harg10 : arg10.IsWhole) (arg11 : Memref sig .tc .vmem S1152x1536 .bf16) (harg11 : arg11.IsWhole) (arg12 : Memref sig .tc .vmem S1536x1536 .fp8e4m3) (harg12 : arg12.IsWhole) (arg13 : Memref sig .tc .vmem S6x2x1536 .i8) (harg13 : arg13.IsWhole) (arg14 : Memref sig .tc .vmem S1536x1536 .fp8e4m3) (harg14 : arg14.IsWhole) (arg15 : Memref sig .tc .vmem S6x2x1536 .i8) (harg15 : arg15.IsWhole) (arg16 : Memref sig .tc .vmem S1536x1536 .fp8e4m3) (harg16 : arg16.IsWhole) (arg17 : Memref sig .tc .vmem S6x2x1536 .i8) (harg17 : arg17.IsWhole) (arg20 : Memref sig .tc .vmem S1152x256 .bf16) (harg20 : arg20.IsWhole) (arg21 : Memref sig .tc .vmem S1152x256 .bf16) (harg21 : arg21.IsWhole) (arg22 : Memref sig .tc .vmem S256x1536 .f32) (harg22 : arg22.IsWhole) (arg23 : Memref sig .tc .vmem S256x1536 .f32) (harg23 : arg23.IsWhole) (arg24 : Memref sig .tc .vmem S1536x256 .f32) (harg24 : arg24.IsWhole) (arg25 : Memref sig .tc .vmem S1536x256 .fp8e4m3) (harg25 : arg25.IsWhole) (arg26 : Memref sig .tc .vmem S6x2x256 .i8) (harg26 : arg26.IsWhole) (arg27 : Memref sig .tc .vmem S1536x256 .fp8e4m3) (harg27 : arg27.IsWhole) (arg28 : Memref sig .tc .vmem S6x2x256 .i8) (harg28 : arg28.IsWhole) (arg29 : Memref sig .tc .vmem S1536x1536 .bf16) (harg29 : arg29.IsWhole) (arg30 : Memref sig .tc .vmem S1536x1536 .bf16) (harg30 : arg30.IsWhole) (arg31 : Memref sig .tc .vmem S1536x1536 .bf16) (harg31 : arg31.IsWhole) (arg32 : Memref sig .tc .vmem S256x1536 .bf16) (harg32 : arg32.IsWhole) (arg33 : Memref sig .tc .vmem S256x1536 .bf16) (harg33 : arg33.IsWhole) (arg34 : Memref sig .tc .vmem S1536x256 .bf16) (harg34 : arg34.IsWhole) (arg35 : Memref sig .tc .vmem S1536x256 .bf16) (harg35 : arg35.IsWhole) (arg36 : Memref sig .tc .vmem S1536x256 .bf16) (harg36 : arg36.IsWhole) (arg37 : Memref sig .tc .vmem S20x2x1536 .i32) (harg37 : arg37.IsWhole) (arg38 : Memref sig .tc .vmem S20x2x1536 .i32) (harg38 : arg38.IsWhole) (hc0 : ¬cond0_0 i)
    (x0 : Vec Ideal S1536x256 .bf16) (x1 : Vec Ideal S1536x256 .bf16) (x2 : Vec Ideal S256x1536 .fp8e4m3) (x3 : Vec Ideal S256x1536 .fp8e4m3) (x4 : Vec Ideal S1536x256 .fp8e4m3) (x5 : Vec Ideal S40x12 .i8) (x6 : Vec Ideal S40x12 .i8) (x7 : Vec Ideal S12x40 .i8) (x8 : Vec Ideal S1152x1536 .bf16) (x9 : Vec Ideal S1152x1536 .bf16) (x10 : Vec Ideal S1152x1536 .bf16) (x11 : Vec Ideal S1536x1536 .fp8e4m3) (x12 : Vec Ideal S6x2x1536 .i8) (x13 : Vec Ideal S1536x1536 .fp8e4m3) (x14 : Vec Ideal S6x2x1536 .i8) (x15 : Vec Ideal S1536x1536 .fp8e4m3) (x16 : Vec Ideal S6x2x1536 .i8) (xs0 : Vec Ideal S1536x1536 .bf16) (xs1 : Vec Ideal S1536x1536 .bf16) (xs2 : Vec Ideal S1536x1536 .bf16)

/-- The block of `y`. -/
theorem out0_B_17_eq :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 (tableB x5) (tableB x6) = k0_pay721 (F := Ideal) x8 (downB (pt i) x4 x7) := by
  frame_open
  simp (disch := decide) only [↓ View.readCov_skip, ↓ View.readCov_cons_toLoadRect, ↓ View.readCov_fill]
  frame_out
  refine Eq.trans (b := k0_pay721 (F := Ideal) x8 (arg34.view.readCov (cellPieces (BitVec.ofNat 32 (pt i).val) x4 x7 24 le_rfl) wholeB)) (by sl_kernel_rfl) ?_
  rw [read_down]

/-- The block of `dx`. -/
theorem out0_B_18_eq :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 xs0 xs1 xs2 (tableB x5) (tableB x6) = k0_pay845 (F := Ideal) (k0_pay843 (F := Ideal) x9 (weightB (pt i) x2 x5)) (k0_pay844 (F := Ideal) x10 (weightB (pt i) x3 x6)) := by
  frame_open
  simp (disch := decide) only [↓ View.readCov_skip, ↓ View.readCov_cons_toLoadRect, ↓ View.readCov_fill]
  frame_out
  refine Eq.trans (b := k0_pay845 (F := Ideal) (k0_pay843 (F := Ideal) x9 (arg32.view.readCov (weightPieces (k0_off1 i) (k0_off2 i) (k0_off1_inb i) (k0_off2_inb i) (tableB x5) x2) wholeW)) (k0_pay844 (F := Ideal) x10 (arg33.view.readCov (weightPieces (k0_off1 i) (k0_off2 i) (k0_off1_inb i) (k0_off2_inb i) (tableB x6) x3) wholeW))) (by sl_kernel_rfl) ?_
  rw [read_weight _ (pt i) _ _ _ _ (off1_eq i) (off2_eq i), read_weight _ (pt i) _ _ _ _ (off1_eq i) (off2_eq i)]

end

end Cert.KernelIdeal.Gen
-- ==== Proof.Carried.lean ====
module

public import proofs.«01_k».proof.Proof.Blocks
public import proofs.«01_k».proof.Proof.FirstStep
public import proofs.«01_k».proof.Proof.FirstTables
public import proofs.«01_k».proof.Proof.FirstRows
public import proofs.«01_k».proof.Proof.LaterSteps
public import proofs.«01_k».proof.Proof.LaterRows

/-!
What the grid's points leave, as functions of the argument arrays: the scratch that is carried on, and each point's block
of every result.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

variable (m : (ℓ : Loc nD τ sig) → Buf (Elt Ideal) ℓ)

/-- What every point leaves in the carried scratch: the hidden codes widened and turned. -/
theorem carried_0 (c : Dev nD) (n : Nat) (h : n < cfg0.N) : (outsAt0 m c n h).2.2.2.2.2.2.2.2.2.1 = unqT (V m c main_arg11) (V m c main_arg12) := by
  induction n with
  | zero =>
    refine (congrArg (fun p => p.2.2.2.2.2.2.2.2.2.1) (outsAt0_A m c ⟨0, h⟩ rfl)).trans ?_
    dsimp only
    rw [sout0_A_0_eq, iblk11_eq, iblk12_eq]
  | succ n ih =>
    have h20 : cfg0.N = 20 := N_0
    have h0 : ¬ (⟨n + 1, h⟩ : Fin cfg0.N).val % 20 = 0 := by
      show ¬ (n + 1) % 20 = 0
      omega
    refine (congrArg (fun p => p.2.2.2.2.2.2.2.2.2.1) (outsAt0_B m c ⟨n + 1, h⟩ h0)).trans ?_
    dsimp only
    unfold sout0_B_0
    exact ih _

/-- What every point leaves in the carried scratch: the first inner gradient widened. -/
theorem carried_1 (c : Dev nD) (n : Nat) (h : n < cfg0.N) : (outsAt0 m c n h).2.2.2.2.2.2.2.2.2.2.1 = unqB (V m c main_arg13) (V m c main_arg14) := by
  induction n with
  | zero =>
    refine (congrArg (fun p => p.2.2.2.2.2.2.2.2.2.2.1) (outsAt0_A m c ⟨0, h⟩ rfl)).trans ?_
    dsimp only
    rw [sout0_A_1_eq, iblk13_eq, iblk14_eq]
  | succ n ih =>
    have h20 : cfg0.N = 20 := N_0
    have h0 : ¬ (⟨n + 1, h⟩ : Fin cfg0.N).val % 20 = 0 := by
      show ¬ (n + 1) % 20 = 0
      omega
    refine (congrArg (fun p => p.2.2.2.2.2.2.2.2.2.2.1) (outsAt0_B m c ⟨n + 1, h⟩ h0)).trans ?_
    dsimp only
    unfold sout0_B_1
    exact ih _

/-- What every point leaves in the carried scratch: the third inner gradient widened. -/
theorem carried_2 (c : Dev nD) (n : Nat) (h : n < cfg0.N) : (outsAt0 m c n h).2.2.2.2.2.2.2.2.2.2.2.1 = unqB (V m c main_arg15) (V m c main_arg16) := by
  induction n with
  | zero =>
    refine (congrArg (fun p => p.2.2.2.2.2.2.2.2.2.2.2.1) (outsAt0_A m c ⟨0, h⟩ rfl)).trans ?_
    dsimp only
    rw [sout0_A_2_eq, iblk15_eq, iblk16_eq]
  | succ n ih =>
    have h20 : cfg0.N = 20 := N_0
    have h0 : ¬ (⟨n + 1, h⟩ : Fin cfg0.N).val % 20 = 0 := by
      show ¬ (n + 1) % 20 = 0
      omega
    refine (congrArg (fun p => p.2.2.2.2.2.2.2.2.2.2.2.1) (outsAt0_B m c ⟨n + 1, h⟩ h0)).trans ?_
    dsimp only
    unfold sout0_B_2
    exact ih _

/-- What every point leaves in the carried scratch: the first weight's scales. -/
theorem carried_8 (c : Dev nD) (n : Nat) (h : n < cfg0.N) : (outsAt0 m c n h).2.2.2.2.2.2.2.2.2.2.2.2.1 = tableB (V m c main_arg3) := by
  induction n with
  | zero =>
    refine (congrArg (fun p => p.2.2.2.2.2.2.2.2.2.2.2.2.1) (outsAt0_A m c ⟨0, h⟩ rfl)).trans ?_
    dsimp only
    rw [sout0_A_8_eq, iblk5_eq]
  | succ n ih =>
    have h20 : cfg0.N = 20 := N_0
    have h0 : ¬ (⟨n + 1, h⟩ : Fin cfg0.N).val % 20 = 0 := by
      show ¬ (n + 1) % 20 = 0
      omega
    refine (congrArg (fun p => p.2.2.2.2.2.2.2.2.2.2.2.2.1) (outsAt0_B m c ⟨n + 1, h⟩ h0)).trans ?_
    dsimp only
    unfold sout0_B_8
    exact ih _

/-- What every point leaves in the carried scratch: the third weight's scales. -/
theorem carried_9 (c : Dev nD) (n : Nat) (h : n < cfg0.N) : (outsAt0 m c n h).2.2.2.2.2.2.2.2.2.2.2.2.2 = tableB (V m c main_arg5) := by
  induction n with
  | zero =>
    refine (congrArg (fun p => p.2.2.2.2.2.2.2.2.2.2.2.2.2) (outsAt0_A m c ⟨0, h⟩ rfl)).trans ?_
    dsimp only
    rw [sout0_A_9_eq, iblk6_eq]
  | succ n ih =>
    have h20 : cfg0.N = 20 := N_0
    have h0 : ¬ (⟨n + 1, h⟩ : Fin cfg0.N).val % 20 = 0 := by
      show ¬ (n + 1) % 20 = 0
      omega
    refine (congrArg (fun p => p.2.2.2.2.2.2.2.2.2.2.2.2.2) (outsAt0_B m c ⟨n + 1, h⟩ h0)).trans ?_
    dsimp only
    unfold sout0_B_9
    exact ih _

/-- Grid point `t`'s block of the result in window 17. -/
theorem left_17 (c : Dev nD) (t : Fin cfg0.N) : (outsAt0 m c t.val t.isLt).1 = k0_pay721 (F := Ideal) (topRows (V m c main_arg8)) (downB (pt (grid0.coords t)) (colsAt (pt (grid0.coords t)) (V m c main_arg6)) (V m c main_arg7)) := by
  by_cases h0 : t.val % 20 = 0
  · refine (congrArg (fun p => p.1) (outsAt0_A m c t h0)).trans ?_
    dsimp only
    rw [out0_A_17_eq, X8_eq, iblk4_eq, iblk7_eq]
  · refine (congrArg (fun p => p.1) (outsAt0_B m c t h0)).trans ?_
    dsimp only
    rw [carried_8 m c, carried_9 m c, ← iblk5_eq m c t, ← iblk6_eq m c t]
    rw [out0_B_17_eq, X8_eq, iblk4_eq, iblk7_eq]

/-- Grid point `t`'s block of the result in window 18. -/
theorem left_18 (c : Dev nD) (t : Fin cfg0.N) : (outsAt0 m c t.val t.isLt).2.1 = k0_pay845 (F := Ideal) (k0_pay843 (F := Ideal) (topRows (V m c main_arg9)) (weightB (pt (grid0.coords t)) (rowsAt (pt (grid0.coords t)) (V m c main_arg2)) (V m c main_arg3))) (k0_pay844 (F := Ideal) (topRows (V m c main_arg10)) (weightB (pt (grid0.coords t)) (rowsAt (pt (grid0.coords t)) (V m c main_arg4)) (V m c main_arg5))) := by
  by_cases h0 : t.val % 20 = 0
  · refine (congrArg (fun p => p.2.1) (outsAt0_A m c t h0)).trans ?_
    dsimp only
    rw [out0_A_18_eq, X9_eq, X10_eq, iblk2_eq, iblk3_eq, iblk5_eq, iblk6_eq]
  · refine (congrArg (fun p => p.2.1) (outsAt0_B m c t h0)).trans ?_
    dsimp only
    rw [carried_8 m c, carried_9 m c, ← iblk5_eq m c t, ← iblk6_eq m c t]
    rw [out0_B_18_eq, X9_eq, X10_eq, iblk2_eq, iblk3_eq, iblk5_eq, iblk6_eq]

/-- Grid point `t`'s block of the result in window 19. -/
theorem left_19 (c : Dev nD) (t : Fin cfg0.N) : (outsAt0 m c t.val t.isLt).2.2.1 = k0_pay904 (F := Ideal) (wideB (colsAt (pt (grid0.coords t)) (V m c main_arg0))) (unqB (V m c main_arg13) (V m c main_arg14)) := by
  by_cases h0 : t.val % 20 = 0
  · refine (congrArg (fun p => p.2.2.1) (outsAt0_A m c t h0)).trans ?_
    dsimp only
    rw [out0_A_19_eq, iblk0_eq, iblk13_eq, iblk14_eq]
  · refine (congrArg (fun p => p.2.2.1) (outsAt0_B m c t h0)).trans ?_
    dsimp only
    rw [carried_1 m c]
    rw [out0_B_19_eq, iblk0_eq]

/-- Grid point `t`'s block of the result in window 20. -/
theorem left_20 (c : Dev nD) (t : Fin cfg0.N) : (outsAt0 m c t.val t.isLt).2.2.2.1 = k0_pay1 (F := Ideal) (wideB (colsAt (pt (grid0.coords t)) (V m c main_arg0))) (unqB (V m c main_arg15) (V m c main_arg16)) := by
  by_cases h0 : t.val % 20 = 0
  · refine (congrArg (fun p => p.2.2.2.1) (outsAt0_A m c t h0)).trans ?_
    dsimp only
    rw [out0_A_20_eq, iblk0_eq, iblk15_eq, iblk16_eq]
  · refine (congrArg (fun p => p.2.2.2.1) (outsAt0_B m c t h0)).trans ?_
    dsimp only
    rw [carried_2 m c]
    rw [out0_B_20_eq, iblk0_eq]

/-- Grid point `t`'s block of the result in window 21. -/
theorem left_21 (c : Dev nD) (t : Fin cfg0.N) : (outsAt0 m c t.val t.isLt).2.2.2.2.1 = k0_pay903 (F := Ideal) (unqT (V m c main_arg11) (V m c main_arg12)) (wideB (colsAt (pt (grid0.coords t)) (V m c main_arg1))) := by
  by_cases h0 : t.val % 20 = 0
  · refine (congrArg (fun p => p.2.2.2.2.1) (outsAt0_A m c t h0)).trans ?_
    dsimp only
    rw [out0_A_21_eq, iblk1_eq, iblk11_eq, iblk12_eq]
  · refine (congrArg (fun p => p.2.2.2.2.1) (outsAt0_B m c t h0)).trans ?_
    dsimp only
    rw [carried_0 m c]
    rw [out0_B_21_eq, iblk1_eq]

/-- Grid point `t`'s block of the result in window 22. -/
theorem left_22 (c : Dev nD) (t : Fin cfg0.N) : (outsAt0 m c t.val t.isLt).2.2.2.2.2.1 = codesB (colsAt (pt (grid0.coords t)) (V m c main_arg0)) := by
  by_cases h0 : t.val % 20 = 0
  · refine (congrArg (fun p => p.2.2.2.2.2.1) (outsAt0_A m c t h0)).trans ?_
    dsimp only
    rw [out0_A_22_eq, iblk0_eq]
  · refine (congrArg (fun p => p.2.2.2.2.2.1) (outsAt0_B m c t h0)).trans ?_
    dsimp only
    rw [out0_B_22_eq, iblk0_eq]

/-- Grid point `t`'s block of the result in window 23. -/
theorem left_23 (c : Dev nD) (t : Fin cfg0.N) : (outsAt0 m c t.val t.isLt).2.2.2.2.2.2.1 = bytesB (colsAt (pt (grid0.coords t)) (V m c main_arg0)) := by
  by_cases h0 : t.val % 20 = 0
  · refine (congrArg (fun p => p.2.2.2.2.2.2.1) (outsAt0_A m c t h0)).trans ?_
    dsimp only
    rw [out0_A_23_eq, iblk0_eq]
  · refine (congrArg (fun p => p.2.2.2.2.2.2.1) (outsAt0_B m c t h0)).trans ?_
    dsimp only
    rw [out0_B_23_eq, iblk0_eq]

/-- Grid point `t`'s block of the result in window 24. -/
theorem left_24 (c : Dev nD) (t : Fin cfg0.N) : (outsAt0 m c t.val t.isLt).2.2.2.2.2.2.2.1 = codesB (colsAt (pt (grid0.coords t)) (V m c main_arg1)) := by
  by_cases h0 : t.val % 20 = 0
  · refine (congrArg (fun p => p.2.2.2.2.2.2.2.1) (outsAt0_A m c t h0)).trans ?_
    dsimp only
    rw [out0_A_24_eq, iblk1_eq]
  · refine (congrArg (fun p => p.2.2.2.2.2.2.2.1) (outsAt0_B m c t h0)).trans ?_
    dsimp only
    rw [out0_B_24_eq, iblk1_eq]

/-- Grid point `t`'s block of the result in window 25. -/
theorem left_25 (c : Dev nD) (t : Fin cfg0.N) : (outsAt0 m c t.val t.isLt).2.2.2.2.2.2.2.2.1 = bytesB (colsAt (pt (grid0.coords t)) (V m c main_arg1)) := by
  by_cases h0 : t.val % 20 = 0
  · refine (congrArg (fun p => p.2.2.2.2.2.2.2.2.1) (outsAt0_A m c t h0)).trans ?_
    dsimp only
    rw [out0_A_25_eq, iblk1_eq]
  · refine (congrArg (fun p => p.2.2.2.2.2.2.2.2.1) (outsAt0_B m c t h0)).trans ?_
    dsimp only
    rw [out0_B_25_eq, iblk1_eq]

end Cert.KernelIdeal.Gen

end
-- ==== Proof.Products.lean ====
module

public import proofs.«01_k».proof.Proof.Blocks

/-!
The kernel's products, element by element: sums over the contracted axis.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

/-- The product of `y` of one point, at one place. -/
theorem rowsY_apply (h : Vec Ideal S1152x1536 .bf16) (w : Vec Ideal S1536x256 .bf16) (r : Fin 1152) (j : Fin 256) :
    k0_pay721 (F := Ideal) h w (ix2 r j) = ∑ k : Fin 1536, h (ix2 r k) * w (ix2 k j) := by
  pointwise [k0_pay721]

/-- The first product of `dx` of one point, at one place. -/
theorem rowsA_apply (h : Vec Ideal S1152x1536 .bf16) (w : Vec Ideal S256x1536 .bf16) (r : Fin 1152) (j : Fin 256) :
    k0_pay843 (F := Ideal) h w (ix2 r j) = ∑ k : Fin 1536, h (ix2 r k) * w (ix2 j k) := by
  pointwise [k0_pay843]

/-- The second product of `dx` of one point, at one place. -/
theorem rowsB_apply (h : Vec Ideal S1152x1536 .bf16) (w : Vec Ideal S256x1536 .bf16) (r : Fin 1152) (j : Fin 256) :
    k0_pay844 (F := Ideal) h w (ix2 r j) = ∑ k : Fin 1536, h (ix2 r k) * w (ix2 j k) := by
  pointwise [k0_pay844]

/-- The sum of the two products of `dx`, at one place. -/
theorem sum_apply (a b : FVec Ideal S1152x256 .f32) (r : Fin 1152) (j : Fin 256) :
    k0_pay845 (F := Ideal) a b (ix2 r j) = a (ix2 r j) + b (ix2 r j) := by
  pointwise [k0_pay845]

/-- The product of the second weight's gradient of one point, at one place. -/
theorem gradD_apply (h : Vec Ideal S1536x1536 .bf16) (d : Vec Ideal S1536x256 .bf16) (r : Fin 1536) (j : Fin 256) :
    k0_pay903 (F := Ideal) h d (ix2 r j) = ∑ k : Fin 1536, h (ix2 r k) * d (ix2 k j) := by
  pointwise [k0_pay903]

/-- The product of the first weight's gradient of one point, at one place. -/
theorem gradA_apply (x : Vec Ideal S1536x256 .bf16) (h : Vec Ideal S1536x1536 .bf16) (r : Fin 256) (j : Fin 1536) :
    k0_pay904 (F := Ideal) x h (ix2 r j) = ∑ k : Fin 1536, x (ix2 k r) * h (ix2 k j) := by
  pointwise [k0_pay904]

/-- The product of the third weight's gradient of one point, at one place. -/
theorem gradB_apply (x : Vec Ideal S1536x256 .bf16) (h : Vec Ideal S1536x1536 .bf16) (r : Fin 256) (j : Fin 1536) :
    k0_pay1 (F := Ideal) x h (ix2 r j) = ∑ k : Fin 1536, x (ix2 k r) * h (ix2 k j) := by
  pointwise [k0_pay1]

end Cert.KernelIdeal.Gen

end
-- ==== Proof.Results.lean ====
module

public import proofs.«01_k».proof.Proof.Target

/-!
The result arrays as functions of the argument arrays, over the extended reals: what both programs leave.
-/

@[expose] public section

set_option maxRecDepth 16384

noncomputable section

namespace Cert.Target

/-- Column codes times the scales that their blocks' bytes stand for. -/
def unqM (v : Fin 1536 → Fin 1536 → EReal) (s : Fin 6 → Fin 2 → Fin 1536 → BitVec 8) (r j : Fin 1536) : EReal :=
  v r j * Scale.byteVal (s ⟨r.val / 256, by omega⟩ ⟨r.val / 128 % 2, by omega⟩ j)

/-- The codes of the first or third weight times their blocks' scales. -/
def upM (v : Fin 5120 → Fin 1536 → EReal) (s : Fin 40 → Fin 12 → BitVec 8) (r : Fin 5120) (j : Fin 1536) : EReal :=
  v r j * Scale.byteVal (s ⟨r.val / 128, by omega⟩ ⟨j.val / 128, by omega⟩)

/-- The codes of the second weight times their blocks' scales. -/
def downM (v : Fin 1536 → Fin 5120 → EReal) (s : Fin 12 → Fin 40 → BitVec 8) (r : Fin 1536) (j : Fin 5120) : EReal :=
  v r j * Scale.byteVal (s ⟨r.val / 128, by omega⟩ ⟨j.val / 128, by omega⟩)

/-- The first rows of `y`: a product with the second weight. -/
def yM (h : Fin 1536 → Fin 1536 → EReal) (v : Fin 1536 → Fin 5120 → EReal) (s : Fin 12 → Fin 40 → BitVec 8)
    (r : Fin 1536) (j : Fin 5120) : EReal := ∑ k : Fin 1536, h r k * downM v s k j

/-- The first rows of `dx`: two products with the first and third weights. -/
def dxM (a b : Fin 1536 → Fin 1536 → EReal) (v1 : Fin 5120 → Fin 1536 → EReal) (s1 : Fin 40 → Fin 12 → BitVec 8)
    (v3 : Fin 5120 → Fin 1536 → EReal) (s3 : Fin 40 → Fin 12 → BitVec 8) (r : Fin 1536) (j : Fin 5120) : EReal :=
  ∑ k : Fin 1536, a r k * upM v1 s1 j k + ∑ k : Fin 1536, b r k * upM v3 s3 j k

/-- Rows below 1152 from one array, the others from another. -/
def stackM (a b : Fin 1536 → Fin 5120 → EReal) (r : Fin 1536) (j : Fin 5120) : EReal := if r.val < 1152 then a r j else b r j

/-- The gradient of the first or third weight: the quantised columns of `x` against the columns of an inner gradient. -/
def upGradM (x : Fin 1536 → Fin 5120 → EReal) (v : Fin 1536 → Fin 1536 → EReal) (s : Fin 6 → Fin 2 → Fin 1536 → BitVec 8)
    (r : Fin 5120) (j : Fin 1536) : EReal := ∑ k : Fin 1536, wideAt (fun n => x n r) k * unqM v s k j

/-- The gradient of the second weight: the columns of the inner activations against the quantised columns of `dy`. -/
def downGradM (d : Fin 1536 → Fin 5120 → EReal) (v : Fin 1536 → Fin 1536 → EReal) (s : Fin 6 → Fin 2 → Fin 1536 → BitVec 8)
    (r : Fin 1536) (j : Fin 5120) : EReal := ∑ k : Fin 1536, unqM v s k r * wideAt (fun n => d n j) k

/-- The codes of an array's columns. -/
def codesM (x : Fin 1536 → Fin 5120 → EReal) (r : Fin 1536) (j : Fin 5120) : EReal := codeAt (fun n => x n j) r

/-- The bytes of the scales of an array's columns. -/
def bytesM (x : Fin 1536 → Fin 5120 → EReal) (g : Fin 6) (k : Fin 2) (j : Fin 5120) : BitVec 8 := byteAt (fun n => x n j) g k

end Cert.Target
-- ==== Proof.BlockResults.lean ====
module

public import proofs.«01_k».proof.Proof.Products
public import proofs.«01_k».proof.Proof.BlockPieces
public import proofs.«01_k».proof.Proof.WeightPieces
public import proofs.«01_k».proof.Proof.Results

/-!
A point's block of each result, element by element: the result's value at the columns or rows that the point covers.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

/-- A block of `y`'s first rows. -/
theorem block_17 (p : Fin 20) (h : Vec Ideal S1536x1536 .bf16) (v : Vec Ideal S1536x5120 .fp8e4m3) (s : Vec Ideal S12x40 .i8) (i : S1152x256.Idx)
    (b : Fin 1536 → Fin 5120 → EReal) (r : Fin 1536) (j : Fin 5120) (hr : r.val = (i 0).val) (hj : j.val = 256 * p.val + (i 1).val) :
    k0_pay721 (F := Ideal) (topRows h) (downB p (colsAt p v) s) i
      = stackM (yM (fun r j => h (ix2 r j)) (fun r j => v (ix2 r j)) (fun r j => s (ix2 r j))) b r j := by
  idx_vars i
  have hi : i0.val < 1152 := i0.isLt
  rw [rowsY_apply]
  unfold stackM
  rw [if_pos (by rw [hr]; exact hi)]
  refine Finset.sum_congr rfl fun k _ => ?_
  have er : r = ⟨i0.val, by omega⟩ := Fin.ext hr
  have ej : j = ⟨256 * p.val + i1.val, by have := p.isLt; have := i1.isLt; omega⟩ := Fin.ext hj
  rw [er, ej]
  have e : (⟨2 * p.val + i1.val / 128, by have := p.isLt; have := i1.isLt; omega⟩ : Fin 40)
      = ⟨(256 * p.val + i1.val) / 128, by have := p.isLt; have := i1.isLt; omega⟩ := Fin.ext (by show 2 * p.val + i1.val / 128 = (256 * p.val + i1.val) / 128; omega)
  show h (ix2 _ k) * (v (ix2 k _) * Scale.byteVal (s (ix2 _ (⟨2 * p.val + i1.val / 128, _⟩ : Fin 40)))) = _
  rw [e]
  rfl

/-- A weight's block times its scales, at an element. -/
theorem weight_apply (p : Fin 20) (v : Vec Ideal S5120x1536 .fp8e4m3) (s : Vec Ideal S40x12 .i8) (i : Fin 256) (k : Fin 1536)
    (j : Fin 5120) (hj : j.val = 256 * p.val + i.val) :
    weightB p (rowsAt p v) s (ix2 i k) = upM (fun r j => v (ix2 r j)) (fun r j => s (ix2 r j)) j k := by
  have ej : j = ⟨256 * p.val + i.val, by have := p.isLt; have := i.isLt; omega⟩ := Fin.ext hj
  rw [ej]
  have e : (⟨2 * p.val + i.val / 128, by have := p.isLt; have := i.isLt; omega⟩ : Fin 40)
      = ⟨(256 * p.val + i.val) / 128, by have := p.isLt; have := i.isLt; omega⟩ := Fin.ext (by show 2 * p.val + i.val / 128 = (256 * p.val + i.val) / 128; omega)
  show v (ix2 _ k) * Scale.byteVal (s (ix2 (⟨2 * p.val + i.val / 128, _⟩ : Fin 40) _)) = _
  rw [e]
  rfl

/-- A block of `dx`'s first rows. -/
theorem block_18 (p : Fin 20) (g h : Vec Ideal S1536x1536 .bf16) (v1 : Vec Ideal S5120x1536 .fp8e4m3) (s1 : Vec Ideal S40x12 .i8)
    (v3 : Vec Ideal S5120x1536 .fp8e4m3) (s3 : Vec Ideal S40x12 .i8) (i : S1152x256.Idx)
    (b : Fin 1536 → Fin 5120 → EReal) (r : Fin 1536) (j : Fin 5120) (hr : r.val = (i 0).val) (hj : j.val = 256 * p.val + (i 1).val) :
    k0_pay845 (F := Ideal) (k0_pay843 (F := Ideal) (topRows g) (weightB p (rowsAt p v1) s1))
        (k0_pay844 (F := Ideal) (topRows h) (weightB p (rowsAt p v3) s3)) i
      = stackM (dxM (fun r j => g (ix2 r j)) (fun r j => h (ix2 r j)) (fun r j => v1 (ix2 r j)) (fun r j => s1 (ix2 r j))
          (fun r j => v3 (ix2 r j)) (fun r j => s3 (ix2 r j))) b r j := by
  idx_vars i
  have hi : i0.val < 1152 := i0.isLt
  rw [sum_apply, rowsA_apply, rowsB_apply]
  unfold stackM
  rw [if_pos (by rw [hr]; exact hi)]
  have er : r = ⟨i0.val, by omega⟩ := Fin.ext hr
  unfold dxM
  congr 1
  · refine Finset.sum_congr rfl fun k _ => ?_
    rw [weight_apply p v1 s1 i1 k j hj, er]
    rfl
  · refine Finset.sum_congr rfl fun k _ => ?_
    rw [weight_apply p v3 s3 i1 k j hj, er]
    rfl

/-- A block of the first weight's gradient. -/
theorem block_19 (p : Fin 20) (x : Vec Ideal S1536x5120 .bf16) (v : Vec Ideal S1536x1536 .fp8e4m3) (s : Vec Ideal S6x2x1536 .i8) (i : S256x1536.Idx)
    (r : Fin 5120) (j : Fin 1536) (hr : r.val = 256 * p.val + (i 0).val) (hj : j.val = (i 1).val) :
    k0_pay904 (F := Ideal) (wideB (colsAt p x)) (unqB v s) i
      = upGradM (fun r j => x (ix2 r j)) (fun r j => v (ix2 r j)) (fun g k j => s (ix3 g k j)) r j := by
  idx_vars i
  have er : r = ⟨256 * p.val + i0.val, by have := p.isLt; have := i0.isLt; omega⟩ := Fin.ext hr
  have ej : j = i1 := Fin.ext hj
  rw [er, ej]
  rw [gradA_apply]
  rfl

/-- A block of the third weight's gradient. -/
theorem block_20 (p : Fin 20) (x : Vec Ideal S1536x5120 .bf16) (v : Vec Ideal S1536x1536 .fp8e4m3) (s : Vec Ideal S6x2x1536 .i8) (i : S256x1536.Idx)
    (r : Fin 5120) (j : Fin 1536) (hr : r.val = 256 * p.val + (i 0).val) (hj : j.val = (i 1).val) :
    k0_pay1 (F := Ideal) (wideB (colsAt p x)) (unqB v s) i
      = upGradM (fun r j => x (ix2 r j)) (fun r j => v (ix2 r j)) (fun g k j => s (ix3 g k j)) r j := by
  idx_vars i
  have er : r = ⟨256 * p.val + i0.val, by have := p.isLt; have := i0.isLt; omega⟩ := Fin.ext hr
  have ej : j = i1 := Fin.ext hj
  rw [er, ej]
  rw [gradB_apply]
  rfl

/-- A block of the second weight's gradient. -/
theorem block_21 (p : Fin 20) (d : Vec Ideal S1536x5120 .bf16) (v : Vec Ideal S1536x1536 .fp8e4m3) (s : Vec Ideal S6x2x1536 .i8) (i : S1536x256.Idx)
    (r : Fin 1536) (j : Fin 5120) (hr : r.val = (i 0).val) (hj : j.val = 256 * p.val + (i 1).val) :
    k0_pay903 (F := Ideal) (unqT v s) (wideB (colsAt p d)) i
      = downGradM (fun r j => d (ix2 r j)) (fun r j => v (ix2 r j)) (fun g k j => s (ix3 g k j)) r j := by
  idx_vars i
  have er : r = i0 := Fin.ext hr
  have ej : j = ⟨256 * p.val + i1.val, by have := p.isLt; have := i1.isLt; omega⟩ := Fin.ext hj
  rw [er, ej]
  rw [gradD_apply]
  rfl

/-- A block of codes. -/
theorem block_codes (p : Fin 20) (x : Vec Ideal S1536x5120 .bf16) (i : S1536x256.Idx)
    (r : Fin 1536) (j : Fin 5120) (hr : r.val = (i 0).val) (hj : j.val = 256 * p.val + (i 1).val) :
    codesB (colsAt p x) i = codesM (fun r j => x (ix2 r j)) r j := by
  idx_vars i
  have er : r = i0 := Fin.ext hr
  have ej : j = ⟨256 * p.val + i1.val, by have := p.isLt; have := i1.isLt; omega⟩ := Fin.ext hj
  rw [er, ej]
  rfl

/-- A block of scales' bytes. -/
theorem block_bytes (p : Fin 20) (x : Vec Ideal S1536x5120 .bf16) (i : S6x2x256.Idx)
    (g : Fin 6) (k : Fin 2) (j : Fin 5120) (hg : g.val = (i 0).val) (hk : k.val = (i 1).val) (hj : j.val = 256 * p.val + (i 2).val) :
    bytesB (colsAt p x) i = bytesM (fun r j => x (ix2 r j)) g k j := by
  idx_vars i
  have eg : g = i0 := Fin.ext hg
  have ek : k = i1 := Fin.ext hk
  have ej : j = ⟨256 * p.val + i2.val, by have := p.isLt; have := i2.isLt; omega⟩ := Fin.ext hj
  rw [eg, ek, ej]
  rfl

end Cert.KernelIdeal.Gen

end
-- ==== Proof.Entry.lean ====
module

public import proofs.«01_k».proof.Proof.Blocks

/-!
What the two arrays that hold earlier rows contain when the grid starts: the arguments they were copied from.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

variable (m : (ℓ : Loc nD τ sig) → Buf (Elt Ideal) ℓ)

/-- At the call's entry the first aliased result holds its argument. -/
theorem V_main_v0_0 (c : Dev nD) : V m c main_v0_0 = m ((c : Thread nD τ).loc main_arg17) := by
  unfold V
  rw [StableHlo.after_cons, StableHlo.after_cons, StableHlo.after_nil,
    StableHlo.unary_result_ne (x := main_arg18) (y := main_v0_1) (h := by decide), StableHlo.unary_result]
  rfl

/-- At the call's entry the second aliased result holds its argument. -/
theorem V_main_v0_1 (c : Dev nD) : V m c main_v0_1 = m ((c : Thread nD τ).loc main_arg18) := by
  unfold V
  rw [StableHlo.after_cons, StableHlo.after_cons, StableHlo.after_nil, StableHlo.unary_result,
    StableHlo.unary_result_ne (x := main_arg17) (y := main_v0_0) (h := by decide)]
  rfl

end Cert.KernelIdeal.Gen

end
-- ==== Proof.KernelArrays.lean ====
module

public import proofs.«01_k».proof.Proof.Carried
public import proofs.«01_k».proof.Proof.BlockResults
public import proofs.«01_k».proof.Proof.Entry

/-!
What the kernel's result arrays hold when the grid has ended, as functions of the argument arrays.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

variable (m : (ℓ : Loc nD τ sig) → Buf (Elt Ideal) ℓ)

/-- Which block of window 17 each grid point writes. -/
theorem wix17 : ∀ t : Fin cfg0.N, win0_17.index t (0 : Fin 2) = 0 ∧ win0_17.index t (1 : Fin 2) = (pt (grid0.coords t)).val :=
  (by decide +kernel : ∀ t : Fin grid0.N, _)

/-- The array of `y`. -/
theorem array_17 (c : Dev nD) : (dats m 0 c).arrAt 17 cfg0.N = fun (i : S1536x5120.Idx) => stackM (yM (fun r j => m ((c : Thread nD τ).loc main_arg8) (ix2 r j)) (fun r j => m ((c : Thread nD τ).loc main_arg6) (ix2 r j)) (fun r j => m ((c : Thread nD τ).loc main_arg7) (ix2 r j))) (fun r j => m ((c : Thread nD τ).loc main_arg17) (ix2 r j)) (i 0) (i 1) := by
  refine (dats m 0 c).arrAt_eq_of_coversWhere_of_agree 17 _ (fun β => β 0 < 1) (by decide +kernel) (fun t hf y => ?_) (fun j hj => ?_)
  · blk_simp
    rw [after0_17, left_17, V_main_arg8, V_main_arg6, V_main_arg7]
    obtain ⟨e0, e1⟩ := wix17 t
    refine block_17 (pt (grid0.coords t)) _ _ _ _ _ _ _ ?_ ?_
    · show win0_17.index t (0 : Fin 2) * 1152 + 1 * (y 0).val = (y 0).val; omega
    · show win0_17.index t (1 : Fin 2) * 256 + 1 * (y 1).val = 256 * (pt (grid0.coords t)).val + (y 1).val; omega
  · blk_simp [Pipeline.Window.cell_apply] at hj
    refine (congrFun ((A_eq m c 17).trans (V_main_v0_0 m c)) _).trans ?_
    have hn : ¬ (((cfg0.win 17).arr.view.emb j) 0).val < 1152 := by
      show ¬ (j 0).val < 1152
      omega
    unfold stackM
    rw [if_neg hn]
    exact congrArg _ (ix2_eta _).symm

/-- Which block of window 18 each grid point writes. -/
theorem wix18 : ∀ t : Fin cfg0.N, win0_18.index t (0 : Fin 2) = 0 ∧ win0_18.index t (1 : Fin 2) = (pt (grid0.coords t)).val :=
  (by decide +kernel : ∀ t : Fin grid0.N, _)

/-- The array of `dx`. -/
theorem array_18 (c : Dev nD) : (dats m 0 c).arrAt 18 cfg0.N = fun (i : S1536x5120.Idx) => stackM (dxM (fun r j => m ((c : Thread nD τ).loc main_arg9) (ix2 r j)) (fun r j => m ((c : Thread nD τ).loc main_arg10) (ix2 r j)) (fun r j => m ((c : Thread nD τ).loc main_arg2) (ix2 r j)) (fun r j => m ((c : Thread nD τ).loc main_arg3) (ix2 r j)) (fun r j => m ((c : Thread nD τ).loc main_arg4) (ix2 r j)) (fun r j => m ((c : Thread nD τ).loc main_arg5) (ix2 r j))) (fun r j => m ((c : Thread nD τ).loc main_arg18) (ix2 r j)) (i 0) (i 1) := by
  refine (dats m 0 c).arrAt_eq_of_coversWhere_of_agree 18 _ (fun β => β 0 < 1) (by decide +kernel) (fun t hf y => ?_) (fun j hj => ?_)
  · blk_simp
    rw [after0_18, left_18, V_main_arg9, V_main_arg10, V_main_arg2, V_main_arg3, V_main_arg4, V_main_arg5]
    obtain ⟨e0, e1⟩ := wix18 t
    refine block_18 (pt (grid0.coords t)) _ _ _ _ _ _ _ _ _ _ ?_ ?_
    · show win0_18.index t (0 : Fin 2) * 1152 + 1 * (y 0).val = (y 0).val; omega
    · show win0_18.index t (1 : Fin 2) * 256 + 1 * (y 1).val = 256 * (pt (grid0.coords t)).val + (y 1).val; omega
  · blk_simp [Pipeline.Window.cell_apply] at hj
    refine (congrFun ((A_eq m c 18).trans (V_main_v0_1 m c)) _).trans ?_
    have hn : ¬ (((cfg0.win 18).arr.view.emb j) 0).val < 1152 := by
      show ¬ (j 0).val < 1152
      omega
    unfold stackM
    rw [if_neg hn]
    exact congrArg _ (ix2_eta _).symm

/-- Which block of window 19 each grid point writes. -/
theorem wix19 : ∀ t : Fin cfg0.N, win0_19.index t (0 : Fin 2) = (pt (grid0.coords t)).val ∧ win0_19.index t (1 : Fin 2) = 0 :=
  (by decide +kernel : ∀ t : Fin grid0.N, _)

/-- The array of the first weight's gradient. -/
theorem array_19 (c : Dev nD) : (dats m 0 c).arrAt 19 cfg0.N = fun (i : S5120x1536.Idx) => upGradM (fun r j => m ((c : Thread nD τ).loc main_arg0) (ix2 r j)) (fun r j => m ((c : Thread nD τ).loc main_arg13) (ix2 r j)) (fun g k j => m ((c : Thread nD τ).loc main_arg14) (ix3 g k j)) (i 0) (i 1) := by
  refine (dats m 0 c).arrAt_eq_of_covers 19 _ (by decide +kernel) fun t hf y => ?_
  blk_simp
  rw [after0_19, left_19, V_main_arg0, V_main_arg13, V_main_arg14]
  obtain ⟨e0, e1⟩ := wix19 t
  refine block_19 (pt (grid0.coords t)) _ _ _ _ _ _ ?_ ?_
  · show win0_19.index t (0 : Fin 2) * 256 + 1 * (y 0).val = 256 * (pt (grid0.coords t)).val + (y 0).val; omega
  · show win0_19.index t (1 : Fin 2) * 1536 + 1 * (y 1).val = (y 1).val; omega

/-- Which block of window 20 each grid point writes. -/
theorem wix20 : ∀ t : Fin cfg0.N, win0_20.index t (0 : Fin 2) = (pt (grid0.coords t)).val ∧ win0_20.index t (1 : Fin 2) = 0 :=
  (by decide +kernel : ∀ t : Fin grid0.N, _)

/-- The array of the third weight's gradient. -/
theorem array_20 (c : Dev nD) : (dats m 0 c).arrAt 20 cfg0.N = fun (i : S5120x1536.Idx) => upGradM (fun r j => m ((c : Thread nD τ).loc main_arg0) (ix2 r j)) (fun r j => m ((c : Thread nD τ).loc main_arg15) (ix2 r j)) (fun g k j => m ((c : Thread nD τ).loc main_arg16) (ix3 g k j)) (i 0) (i 1) := by
  refine (dats m 0 c).arrAt_eq_of_covers 20 _ (by decide +kernel) fun t hf y => ?_
  blk_simp
  rw [after0_20, left_20, V_main_arg0, V_main_arg15, V_main_arg16]
  obtain ⟨e0, e1⟩ := wix20 t
  refine block_20 (pt (grid0.coords t)) _ _ _ _ _ _ ?_ ?_
  · show win0_20.index t (0 : Fin 2) * 256 + 1 * (y 0).val = 256 * (pt (grid0.coords t)).val + (y 0).val; omega
  · show win0_20.index t (1 : Fin 2) * 1536 + 1 * (y 1).val = (y 1).val; omega

/-- Which block of window 21 each grid point writes. -/
theorem wix21 : ∀ t : Fin cfg0.N, win0_21.index t (0 : Fin 2) = 0 ∧ win0_21.index t (1 : Fin 2) = (pt (grid0.coords t)).val :=
  (by decide +kernel : ∀ t : Fin grid0.N, _)

/-- The array of the second weight's gradient. -/
theorem array_21 (c : Dev nD) : (dats m 0 c).arrAt 21 cfg0.N = fun (i : S1536x5120.Idx) => downGradM (fun r j => m ((c : Thread nD τ).loc main_arg1) (ix2 r j)) (fun r j => m ((c : Thread nD τ).loc main_arg11) (ix2 r j)) (fun g k j => m ((c : Thread nD τ).loc main_arg12) (ix3 g k j)) (i 0) (i 1) := by
  refine (dats m 0 c).arrAt_eq_of_covers 21 _ (by decide +kernel) fun t hf y => ?_
  blk_simp
  rw [after0_21, left_21, V_main_arg1, V_main_arg11, V_main_arg12]
  obtain ⟨e0, e1⟩ := wix21 t
  refine block_21 (pt (grid0.coords t)) _ _ _ _ _ _ ?_ ?_
  · show win0_21.index t (0 : Fin 2) * 1536 + 1 * (y 0).val = (y 0).val; omega
  · show win0_21.index t (1 : Fin 2) * 256 + 1 * (y 1).val = 256 * (pt (grid0.coords t)).val + (y 1).val; omega

/-- Which block of window 22 each grid point writes. -/
theorem wix22 : ∀ t : Fin cfg0.N, win0_22.index t (0 : Fin 2) = 0 ∧ win0_22.index t (1 : Fin 2) = (pt (grid0.coords t)).val :=
  (by decide +kernel : ∀ t : Fin grid0.N, _)

/-- The array of the codes of the columns of `x`. -/
theorem array_22 (c : Dev nD) : (dats m 0 c).arrAt 22 cfg0.N = fun (i : S1536x5120.Idx) => codesM (fun r j => m ((c : Thread nD τ).loc main_arg0) (ix2 r j)) (i 0) (i 1) := by
  refine (dats m 0 c).arrAt_eq_of_covers 22 _ (by decide +kernel) fun t hf y => ?_
  blk_simp
  rw [after0_22, left_22, V_main_arg0]
  obtain ⟨e0, e1⟩ := wix22 t
  refine block_codes (pt (grid0.coords t)) _ _ _ _ ?_ ?_
  · show win0_22.index t (0 : Fin 2) * 1536 + 1 * (y 0).val = (y 0).val; omega
  · show win0_22.index t (1 : Fin 2) * 256 + 1 * (y 1).val = 256 * (pt (grid0.coords t)).val + (y 1).val; omega

/-- Which block of window 23 each grid point writes. -/
theorem wix23 : ∀ t : Fin cfg0.N, win0_23.index t (0 : Fin 3) = 0 ∧ win0_23.index t (1 : Fin 3) = 0 ∧ win0_23.index t (2 : Fin 3) = (pt (grid0.coords t)).val :=
  (by decide +kernel : ∀ t : Fin grid0.N, _)

/-- The array of the scales of the columns of `x`. -/
theorem array_23 (c : Dev nD) : (dats m 0 c).arrAt 23 cfg0.N = fun (i : S6x2x5120.Idx) => bytesM (fun r j => m ((c : Thread nD τ).loc main_arg0) (ix2 r j)) (i 0) (i 1) (i 2) := by
  refine (dats m 0 c).arrAt_eq_of_covers 23 _ (by decide +kernel) fun t hf y => ?_
  blk_simp
  rw [after0_23, left_23, V_main_arg0]
  obtain ⟨e0, e1, e2⟩ := wix23 t
  refine block_bytes (pt (grid0.coords t)) _ _ _ _ _ ?_ ?_ ?_
  · show win0_23.index t (0 : Fin 3) * 6 + 1 * (y 0).val = (y 0).val; omega
  · show win0_23.index t (1 : Fin 3) * 2 + 1 * (y 1).val = (y 1).val; omega
  · show win0_23.index t (2 : Fin 3) * 256 + 1 * (y 2).val = 256 * (pt (grid0.coords t)).val + (y 2).val; omega

/-- Which block of window 24 each grid point writes. -/
theorem wix24 : ∀ t : Fin cfg0.N, win0_24.index t (0 : Fin 2) = 0 ∧ win0_24.index t (1 : Fin 2) = (pt (grid0.coords t)).val :=
  (by decide +kernel : ∀ t : Fin grid0.N, _)

/-- The array of the codes of the columns of `dy`. -/
theorem array_24 (c : Dev nD) : (dats m 0 c).arrAt 24 cfg0.N = fun (i : S1536x5120.Idx) => codesM (fun r j => m ((c : Thread nD τ).loc main_arg1) (ix2 r j)) (i 0) (i 1) := by
  refine (dats m 0 c).arrAt_eq_of_covers 24 _ (by decide +kernel) fun t hf y => ?_
  blk_simp
  rw [after0_24, left_24, V_main_arg1]
  obtain ⟨e0, e1⟩ := wix24 t
  refine block_codes (pt (grid0.coords t)) _ _ _ _ ?_ ?_
  · show win0_24.index t (0 : Fin 2) * 1536 + 1 * (y 0).val = (y 0).val; omega
  · show win0_24.index t (1 : Fin 2) * 256 + 1 * (y 1).val = 256 * (pt (grid0.coords t)).val + (y 1).val; omega

/-- Which block of window 25 each grid point writes. -/
theorem wix25 : ∀ t : Fin cfg0.N, win0_25.index t (0 : Fin 3) = 0 ∧ win0_25.index t (1 : Fin 3) = 0 ∧ win0_25.index t (2 : Fin 3) = (pt (grid0.coords t)).val :=
  (by decide +kernel : ∀ t : Fin grid0.N, _)

/-- The array of the scales of the columns of `dy`. -/
theorem array_25 (c : Dev nD) : (dats m 0 c).arrAt 25 cfg0.N = fun (i : S6x2x5120.Idx) => bytesM (fun r j => m ((c : Thread nD τ).loc main_arg1) (ix2 r j)) (i 0) (i 1) (i 2) := by
  refine (dats m 0 c).arrAt_eq_of_covers 25 _ (by decide +kernel) fun t hf y => ?_
  blk_simp
  rw [after0_25, left_25, V_main_arg1]
  obtain ⟨e0, e1, e2⟩ := wix25 t
  refine block_bytes (pt (grid0.coords t)) _ _ _ _ _ ?_ ?_ ?_
  · show win0_25.index t (0 : Fin 3) * 6 + 1 * (y 0).val = (y 0).val; omega
  · show win0_25.index t (1 : Fin 3) * 2 + 1 * (y 1).val = (y 1).val; omega
  · show win0_25.index t (2 : Fin 3) * 256 + 1 * (y 2).val = 256 * (pt (grid0.coords t)).val + (y 2).val; omega

end Cert.KernelIdeal.Gen

end
-- ==== Proof.KernelResults.lean ====
module

public import proofs.«01_k».proof.Proof.KernelRun
public import proofs.«01_k».proof.Proof.KernelArrays

/-!
The kernel's run with its results named: every result array as a function of the argument arrays.
-/

@[expose] public section

set_option maxRecDepth 16384

noncomputable section

namespace Cert.KernelIdeal.Gen

open Idealize.ShloMosaic Idealize.ShloMosaic.TcCoe Idealize.ShloMosaic.Tactic
open Idealize.SL Idealize.SL.Sem Cert.Bands Cert.Target
open Idealize.ShloMosaic.Pipeline (Dat Cfg Window)

variable (m : (ℓ : Loc nD τ sig) → Buf (Elt Ideal) ℓ) (ρ : Dev nD → PrngReg)

/-- `y`, from the argument arrays. -/
def result_0 (c : Dev nD) : Buf (Elt Ideal) ((c : Thread nD τ).loc main_v0_0) := fun (i : S1536x5120.Idx) => stackM (yM (fun r j => m ((c : Thread nD τ).loc main_arg8) (ix2 r j)) (fun r j => m ((c : Thread nD τ).loc main_arg6) (ix2 r j)) (fun r j => m ((c : Thread nD τ).loc main_arg7) (ix2 r j))) (fun r j => m ((c : Thread nD τ).loc main_arg17) (ix2 r j)) (i 0) (i 1)

/-- `dx`, from the argument arrays. -/
def result_1 (c : Dev nD) : Buf (Elt Ideal) ((c : Thread nD τ).loc main_v0_1) := fun (i : S1536x5120.Idx) => stackM (dxM (fun r j => m ((c : Thread nD τ).loc main_arg9) (ix2 r j)) (fun r j => m ((c : Thread nD τ).loc main_arg10) (ix2 r j)) (fun r j => m ((c : Thread nD τ).loc main_arg2) (ix2 r j)) (fun r j => m ((c : Thread nD τ).loc main_arg3) (ix2 r j)) (fun r j => m ((c : Thread nD τ).loc main_arg4) (ix2 r j)) (fun r j => m ((c : Thread nD τ).loc main_arg5) (ix2 r j))) (fun r j => m ((c : Thread nD τ).loc main_arg18) (ix2 r j)) (i 0) (i 1)

/-- The first weight's gradient, from the argument arrays. -/
def result_2 (c : Dev nD) : Buf (Elt Ideal) ((c : Thread nD τ).loc main_v0_2) := fun (i : S5120x1536.Idx) => upGradM (fun r j => m ((c : Thread nD τ).loc main_arg0) (ix2 r j)) (fun r j => m ((c : Thread nD τ).loc main_arg13) (ix2 r j)) (fun g k j => m ((c : Thread nD τ).loc main_arg14) (ix3 g k j)) (i 0) (i 1)

/-- The third weight's gradient, from the argument arrays. -/
def result_3 (c : Dev nD) : Buf (Elt Ideal) ((c : Thread nD τ).loc main_v0_3) := fun (i : S5120x1536.Idx) => upGradM (fun r j => m ((c : Thread nD τ).loc main_arg0) (ix2 r j)) (fun r j => m ((c : Thread nD τ).loc main_arg15) (ix2 r j)) (fun g k j => m ((c : Thread nD τ).loc main_arg16) (ix3 g k j)) (i 0) (i 1)

/-- The second weight's gradient, from the argument arrays. -/
def result_4 (c : Dev nD) : Buf (Elt Ideal) ((c : Thread nD τ).loc main_v0_4) := fun (i : S1536x5120.Idx) => downGradM (fun r j => m ((c : Thread nD τ).loc main_arg1) (ix2 r j)) (fun r j => m ((c : Thread nD τ).loc main_arg11) (ix2 r j)) (fun g k j => m ((c : Thread nD τ).loc main_arg12) (ix3 g k j)) (i 0) (i 1)

/-- The codes of the columns of `x`, from the argument arrays. -/
def result_5 (c : Dev nD) : Buf (Elt Ideal) ((c : Thread nD τ).loc main_v0_5) := fun (i : S1536x5120.Idx) => codesM (fun r j => m ((c : Thread nD τ).loc main_arg0) (ix2 r j)) (i 0) (i 1)

/-- The scales of the columns of `x`, from the argument arrays. -/
def result_6 (c : Dev nD) : Buf (Elt Ideal) ((c : Thread nD τ).loc main_v0_6) := fun (i : S6x2x5120.Idx) => bytesM (fun r j => m ((c : Thread nD τ).loc main_arg0) (ix2 r j)) (i 0) (i 1) (i 2)

/-- The codes of the columns of `dy`, from the argument arrays. -/
def result_7 (c : Dev nD) : Buf (Elt Ideal) ((c : Thread nD τ).loc main_v0_7) := fun (i : S1536x5120.Idx) => codesM (fun r j => m ((c : Thread nD τ).loc main_arg1) (ix2 r j)) (i 0) (i 1)

/-- The scales of the columns of `dy`, from the argument arrays. -/
def result_8 (c : Dev nD) : Buf (Elt Ideal) ((c : Thread nD τ).loc main_v0_8) := fun (i : S6x2x5120.Idx) => bytesM (fun r j => m ((c : Thread nD τ).loc main_arg1) (ix2 r j)) (i 0) (i 1) (i 2)

/-- Every execution ends, with each result array at its function of the arguments. -/
theorem run_results : θ_run defs (onTc (τ := τ) (main (F := Ideal))) ⟨m, fun _ => 0, ρ⟩ (fun r => ∀ c : Dev nD,
      r.2.mem ((c.tc : Thread nD τ).loc main_v0_0) = result_0 m c
      ∧ r.2.mem ((c.tc : Thread nD τ).loc main_v0_1) = result_1 m c
      ∧ r.2.mem ((c.tc : Thread nD τ).loc main_v0_2) = result_2 m c
      ∧ r.2.mem ((c.tc : Thread nD τ).loc main_v0_3) = result_3 m c
      ∧ r.2.mem ((c.tc : Thread nD τ).loc main_v0_4) = result_4 m c
      ∧ r.2.mem ((c.tc : Thread nD τ).loc main_v0_5) = result_5 m c
      ∧ r.2.mem ((c.tc : Thread nD τ).loc main_v0_6) = result_6 m c
      ∧ r.2.mem ((c.tc : Thread nD τ).loc main_v0_7) = result_7 m c
      ∧ r.2.mem ((c.tc : Thread nD τ).loc main_v0_8) = result_8 m c) :=
  (θ_run defs _ _).mono (fun r h c => ⟨((h c).1 17).trans (array_17 m c),
      ((h c).1 18).trans (array_18 m c),
      ((h c).1 19).trans (array_19 m c),
      ((h c).1 20).trans (array_20 m c),
      ((h c).1 21).trans (array_21 m c),
      ((h c).1 22).trans (array_22 m c),
      ((h c).1 23).trans (array_23 m c),
      ((h c).1 24).trans (array_24 m c),
      ((h c).1 25).trans (array_25 m c)⟩)
    (run_main m ρ)

end Cert.KernelIdeal.Gen

end
-- ==== Proof.RefShapes.lean ====
module

public import proofs.«01_k».proof.Proof.Gen.ReferenceIdeal.Skeleton
public import proofs.«01_k».proof.Proof.Quant
public import Idealize.ShloMosaic.PureOps.Ideal.Laws
public import Idealize.ShloMosaic.Lib.Pointwise

/-!
The reference's reshapings read at an index.
-/

@[expose] public section

set_option maxRecDepth 16384

noncomputable section

namespace Cert.RefQuant
open Idealize.ShloMosaic Idealize.SL.Sem Cert.ReferenceIdeal Cert.ReferenceIdeal.Gen

/-- Row `r` of a column is place `r % 128` of block `r / 128 % 2` of the pair `r / 256`. -/
theorem split_apply {e} (v : Vec Ideal S1536x5120 e) (g : Fin 6) (s : Fin 2) (r : Fin 128) (j : Fin 5120) :
    shapeCast S6x2x128x5120 v shapeCasts_S1536x5120_S6x2x128x5120 (ix4 g s r j) = v (ix2 ⟨g.val * 256 + s.val * 128 + r.val, by omega⟩ j) := by
  pointwise

/-- Blocks joined into columns, at one place. -/
theorem join_apply {e} (v : Vec Ideal S6x2x128x5120 e) (r : Fin 1536) (j : Fin 5120) :
    shapeCast S1536x5120 v shapeCasts_S6x2x128x5120_S1536x5120 (ix2 r j)
      = v (ix4 ⟨r.val / 256, by omega⟩ ⟨r.val / 128 % 2, by omega⟩ ⟨r.val % 128, by omega⟩ j) := by
  pointwise

/-- A number for each block spread over the block, at one place. -/
theorem spread_apply (v : FVec Ideal S6x2x5120 .f32) (g : Fin 6) (s : Fin 2) (r : Fin 128) (j : Fin 5120) :
    broadcastTo S6x2x128x5120 (shapeCast S6x2x1x5120 v shapeCasts_S6x2x5120_S6x2x1x5120) broadcasts_S6x2x1x5120_S6x2x128x5120 (ix4 g s r j)
      = v (ix3 g s j) := by
  pointwise
end Cert.RefQuant
-- ==== Proof.RefMax.lean ====
module

public import proofs.«01_k».proof.Proof.Gen.ReferenceIdeal.Skeleton
public import proofs.«01_k».proof.Proof.Quant
public import Idealize.ShloMosaic.PureOps.Ideal.Laws
public import Idealize.ShloMosaic.Lib.Pointwise

/-!
The reference's largest magnitudes read at an index.
-/

@[expose] public section

set_option maxRecDepth 16384

noncomputable section

namespace Cert.RefQuant
open Idealize.ShloMosaic Idealize.SL.Sem Cert.ReferenceIdeal Cert.ReferenceIdeal.Gen

/-- The largest magnitude of each block. -/
abbrev maxQ (t : FVec Ideal S6x2x128x5120 .f32) : FVec Ideal S6x2x5120 .f32 :=
  multiReduction .maximumf [2] S6x2x5120 (absf t) 0xFF800000#32 reduces_S6x2x128x5120_S6x2x5120 (.inl rfl) rfl

/-- The largest magnitude of each block. -/
theorem maxQ_apply (t : FVec Ideal S6x2x128x5120 .f32) (g : Fin 6) (s : Fin 2) (j : Fin 5120) :
    maxQ t (ix3 g s j) = Scale.amax (fun r => t (ix4 g s r j)) := by
  pointwise [maxQ]
  rw [Scale.inf_f32]
  rfl
end Cert.RefQuant
-- ==== Proof.RefExp.lean ====
module

public import proofs.«01_k».proof.Proof.Gen.ReferenceIdeal.Skeleton
public import proofs.«01_k».proof.Proof.Quant
public import Idealize.ShloMosaic.PureOps.Ideal.Laws
public import Idealize.ShloMosaic.Lib.Pointwise

/-!
The reference's exponents read at an index.
-/

@[expose] public section

set_option maxRecDepth 16384

noncomputable section

namespace Cert.RefQuant
open Idealize.ShloMosaic Idealize.SL.Sem Cert.ReferenceIdeal Cert.ReferenceIdeal.Gen

/-- The exponent before it is held in range. -/
abbrev logQ (m : FVec Ideal S6x2x5120 .f32) : FVec Ideal S6x2x5120 .f32 :=
  divf (log (mulf m (broadcast S6x2x5120 (Scalar.ofBits .f32 0x3B124925#32)))) (broadcast S6x2x5120 (Scalar.log (Scalar.ofBits .f32 0x40000000#32)))

/-- The exponent of each block. -/
theorem exp_apply (m : FVec Ideal S6x2x5120 .f32) (g : Fin 6) (s : Fin 2) (j : Fin 5120) :
    k0_pay17 m (logQ m) (ix3 g s j) = Scale.refExp (m (ix3 g s j)) := by
  have e : ((1 : ℝ) : EReal) = 1 := EReal.coe_one
  pointwise [k0_pay17]
  unfold Scale.refExp
  rw [← Scale.two_f32, ← Scale.cap_f32, e]
  rfl

/-- A block's code, from its exponent. -/
theorem code_apply (t : FVec Ideal S6x2x128x5120 .f32) (m l : FVec Ideal S6x2x5120 .f32) (g : Fin 6) (s : Fin 2) (r : Fin 128) (j : Fin 5120) :
    k0_pay18 t m l (ix4 g s r j) = Scale.clip (t (ix4 g s r j) * Ideal.exp2 (0 - k0_pay17 m l (ix3 g s j))) := by
  unfold k0_pay18
  generalize k0_pay17 m l = e
  pointwise
  rfl

/-- The byte of each block, from its exponent. -/
theorem byte_apply (m l : FVec Ideal S6x2x5120 .f32) (g : Fin 6) (s : Fin 2) (j : Fin 5120) :
    k0_pay19 m l (ix3 g s j) = (Ideal.fptosi 32 (k0_pay17 m l (ix3 g s j) + ((127 : ℝ) : EReal))).setWidth 8 := by
  rw [← Scale.bias_f32]
  unfold k0_pay19
  generalize k0_pay17 m l = e
  pointwise
  rfl

/-- A widened value, from its code and its block's exponent. -/
theorem wide_apply (t : FVec Ideal S6x2x128x5120 .f32) (m l : FVec Ideal S6x2x5120 .f32) (r : Fin 1536) (j : Fin 5120) :
    k0_pay21 t m l (ix2 r j)
      = k0_pay18 t m l (ix4 ⟨r.val / 256, by omega⟩ ⟨r.val / 128 % 2, by omega⟩ ⟨r.val % 128, by omega⟩ j)
        * Ideal.exp2 (k0_pay17 m l (ix3 ⟨r.val / 256, by omega⟩ ⟨r.val / 128 % 2, by omega⟩ j)) := by
  unfold k0_pay21
  generalize k0_pay17 m l = e
  generalize k0_pay18 t m l = k
  pointwise
  rfl
end Cert.RefQuant
-- ==== Proof.RefQuant.lean ====
module

public import proofs.«01_k».proof.Proof.RefShapes
public import proofs.«01_k».proof.Proof.RefMax
public import proofs.«01_k».proof.Proof.RefExp
public import proofs.«01_k».proof.Proof.Target

/-!
The reference's quantising of columns read at an index, over the extended reals.
-/

@[expose] public section

set_option maxRecDepth 16384

noncomputable section

namespace Cert.RefQuant
open Idealize.ShloMosaic Idealize.SL.Sem Cert.ReferenceIdeal Cert.ReferenceIdeal.Gen

open Cert.Target

/-- Column `j` of an array. -/
abbrev colQ (v : Vec Ideal S1536x5120 .bf16) (j : Fin 5120) : Fin 1536 → EReal := fun r => v (ix2 r j)

/-- An array split into blocks, at one place. -/
theorem parts_apply (v : Vec Ideal S1536x5120 .bf16) (g : Fin 6) (s : Fin 2) (r : Fin 128) (j : Fin 5120) :
    k0_pay14 v (ix4 g s r j) = blk (colQ v j) ⟨2 * g.val + s.val, by omega⟩ r := by
  have h := split_apply (e := .bf16) v g s r j
  show shapeCast S6x2x128x5120 v shapeCasts_S1536x5120_S6x2x128x5120 (ix4 g s r j) = _
  rw [h]
  show v (ix2 _ j) = v (ix2 _ j)
  congr 2
  apply Fin.ext
  show g.val * 256 + s.val * 128 + r.val = 128 * (2 * g.val + s.val) + r.val
  omega

/-- The largest magnitude of each block of an array. -/
theorem top_apply (v : Vec Ideal S1536x5120 .bf16) (g : Fin 6) (s : Fin 2) (j : Fin 5120) :
    k0_pay15 v (ix3 g s j) = Scale.amax (blk (colQ v j) ⟨2 * g.val + s.val, by omega⟩) := by
  rw [show k0_pay15 v = maxQ (k0_pay14 v) from rfl, maxQ_apply]
  congr 1
  funext r
  exact parts_apply v g s r j

/-- The exponent of each block of an array. -/
theorem power_apply (v : Vec Ideal S1536x5120 .bf16) (g : Fin 6) (s : Fin 2) (j : Fin 5120) :
    k0_pay17 (k0_pay15 v) (k0_pay16 v) (ix3 g s j) = Scale.refExp (Scale.amax (blk (colQ v j) ⟨2 * g.val + s.val, by omega⟩)) := by
  rw [show k0_pay16 v = logQ (k0_pay15 v) from rfl, exp_apply, top_apply]

/-- The codes of an array, block by block. -/
theorem codes4_apply (v : Vec Ideal S1536x5120 .bf16) (g : Fin 6) (s : Fin 2) (r : Fin 128) (j : Fin 5120) :
    k0_pay18 (k0_pay14 v) (k0_pay15 v) (k0_pay16 v) (ix4 g s r j) = Scale.code (blk (colQ v j) ⟨2 * g.val + s.val, by omega⟩) r := by
  rw [code_apply, parts_apply, power_apply]
  rfl

/-- The block of a row, counted in pairs. -/
theorem pair_block (r : Fin 1536) : (⟨2 * (r.val / 256) + r.val / 128 % 2, by omega⟩ : Fin 12) = ⟨r.val / 128, by omega⟩ :=
  Fin.ext (by show 2 * (r.val / 256) + r.val / 128 % 2 = r.val / 128; omega)

/-- The codes of an array's columns. -/
theorem codesQ_apply (v : Vec Ideal S1536x5120 .bf16) (r : Fin 1536) (j : Fin 5120) :
    k0_pay20 (k0_pay14 v) (k0_pay15 v) (k0_pay16 v) (ix2 r j) = codeAt (colQ v j) r := by
  refine (join_apply (e := .fp8e4m3) (k0_pay18 (k0_pay14 v) (k0_pay15 v) (k0_pay16 v)) r j).trans ?_
  rw [codes4_apply]
  simp only [pair_block]
  rfl

/-- The bytes of the scales of an array's columns. -/
theorem bytesQ_apply (v : Vec Ideal S1536x5120 .bf16) (g : Fin 6) (s : Fin 2) (j : Fin 5120) :
    k0_pay19 (k0_pay15 v) (k0_pay16 v) (ix3 g s j) = byteAt (colQ v j) g s := by
  rw [byte_apply, power_apply]
  rfl

/-- An array's columns quantised and widened again. -/
theorem wideQ_apply (v : Vec Ideal S1536x5120 .bf16) (r : Fin 1536) (j : Fin 5120) :
    k0_pay21 (k0_pay14 v) (k0_pay15 v) (k0_pay16 v) (ix2 r j) = wideAt (colQ v j) r := by
  rw [wide_apply, codes4_apply, power_apply]
  simp only [pair_block]
  rfl
end Cert.RefQuant
-- ==== Proof.RefProducts.lean ====
module

public import proofs.«01_k».proof.Proof.Gen.ReferenceIdeal.Skeleton
public import proofs.«01_k».proof.Proof.Quant
public import Idealize.ShloMosaic.PureOps.Ideal.Laws
public import Idealize.ShloMosaic.Lib.Pointwise

/-!
The reference's products and joined rows read at an index.
-/

@[expose] public section

set_option maxRecDepth 16384

noncomputable section

namespace Cert.RefQuant
open Idealize.ShloMosaic Idealize.SL.Sem Cert.ReferenceIdeal Cert.ReferenceIdeal.Gen

/-- The reference's `y`, at one place: a product in the first 1152 rows, an argument in the others. -/
theorem y_apply (w : FVec Ideal S1536x5120 .bf16) (h : Vec Ideal S1536x1536 .bf16) (o : Vec Ideal S384x5120 .bf16) (r : Fin 1536) (j : Fin 5120) :
    k0_pay22 w h o (ix2 r j) = if h' : r.val < 1152 then ∑ k : Fin 1536, h (ix2 r k) * w (ix2 k j) else o (ix2 ⟨r.val - 1152, by omega⟩ j) := by
  pointwise [k0_pay22]

/-- The reference's `dx`, at one place: two products in the first 1152 rows, an argument in the others. -/
theorem dx_apply (w1 w3 : FVec Ideal S5120x1536 .bf16) (a b : Vec Ideal S1536x1536 .bf16) (o : Vec Ideal S384x5120 .bf16) (r : Fin 1536) (j : Fin 5120) :
    k0_pay23 w1 w3 a b o (ix2 r j) = if h' : r.val < 1152 then ∑ k : Fin 1536, a (ix2 r k) * w1 (ix2 j k) + ∑ k : Fin 1536, b (ix2 r k) * w3 (ix2 j k)
      else o (ix2 ⟨r.val - 1152, by omega⟩ j) := by
  pointwise [k0_pay23]

/-- The reference's gradient of the second weight, at one place. -/
theorem dw2_apply (d : FVec Ideal S1536x5120 .bf16) (h : FVec Ideal S1536x1536 .bf16) (r : Fin 1536) (j : Fin 5120) :
    k0_pay25 d h (constant S1536x5120 .f32 0x00000000#32) (ix2 r j) = ∑ k : Fin 1536, h (ix2 k r) * d (ix2 k j) := by
  pointwise [k0_pay25]
/-- A product of the transposed columns. -/
abbrev gradQ (x : FVec Ideal S1536x5120 .bf16) (h : FVec Ideal S1536x1536 .bf16) : FVec Ideal S5120x1536 .f32 :=
  matmul dot_S1536x5120_S1536x1536_S5120x1536_0_0_1_1_n_n none x h (constant S5120x1536 .f32 0x00000000#32)

/-- The reference's gradient of the first or third weight, at one place. -/
theorem grad_apply (x : FVec Ideal S1536x5120 .bf16) (h : FVec Ideal S1536x1536 .bf16) (r : Fin 5120) (j : Fin 1536) :
    gradQ x h (ix2 r j) = ∑ k : Fin 1536, x (ix2 k r) * h (ix2 k j) := by
  pointwise [gradQ]
end Cert.RefQuant
-- ==== Proof.RefWiden.lean ====
module

public import proofs.«01_k».proof.Proof.Gen.ReferenceIdeal.Skeleton
public import proofs.«01_k».proof.Proof.Quant
public import Idealize.ShloMosaic.PureOps.Ideal.Laws
public import Idealize.ShloMosaic.Lib.Pointwise

/-!
The reference's widened weights and columns read at an index.
-/

@[expose] public section

set_option maxRecDepth 16384

noncomputable section

namespace Cert.RefQuant
open Idealize.ShloMosaic Idealize.SL.Sem Cert.ReferenceIdeal Cert.ReferenceIdeal.Gen

/-- The scales that the bytes stand for. -/
abbrev scaleQ (s : Shape) (b : IVec s 8) : FVec Ideal s .f32 :=
  select (cmpi .eq (extui 32 b natLt_8_32) (broadcast s 255#32)) (broadcast s (Scalar.ofBits .f32 0x7F800000#32))
    (select (cmpi .eq (extui 32 b natLt_8_32) (broadcast s 0#32)) (broadcast s (Scalar.ofBits .f32 0x00000000#32))
      (exp2 (subf (sitofp .f32 (extui 32 b natLt_8_32)) (broadcast s (Scalar.ofBits .f32 0x42FE0000#32)))))

/-- The word of infinity. -/
theorem top_f32 : Ideal.ofBits .f32 0x7F800000#32 = ⊤ := by simp [Ideal.ofBits, Ideal.ieee]

/-- A choice by an equality of words. -/
theorem select_eq {α : Type} (a b : BitVec 32) (x y : α) : Scalar.select (IntOp.cmpi .eq a b) x y = if a = b then x else y := by
  by_cases h : a = b
  · simp [IntOp.cmpi, Scalar.select, h]
  · have h' : (a == b) = false := by simpa using h
    simp [IntOp.cmpi, Scalar.select, h, h']

/-- The reference's scale of a byte. -/
theorem scale_apply (s : Shape) (b : IVec s 8) (i : s.Idx) : scaleQ s b i = Scale.byteVal (b i) := by
  rw [← Scale.refByteVal_eq]
  pointwise [scaleQ]
  unfold Scale.refByteVal
  rw [select_eq, select_eq, ← Scale.bias_f32, top_f32]
  rfl

/-- Column codes widened, at one place. -/
theorem unq_apply (v : Vec Ideal S1536x1536 .fp8e4m3) (s : Vec Ideal S6x2x1536 .i8) (r j : Fin 1536) :
    k0_pay24 v s (ix2 r j) = v (ix2 r j) * Scale.byteVal (s (ix3 ⟨r.val / 256, by omega⟩ ⟨r.val / 128 % 2, by omega⟩ j)) := by
  rw [← scale_apply S6x2x1536 s]
  pointwise [k0_pay24]

/-- The first and third weights widened, at one place. -/
theorem rows_apply (v : Vec Ideal S5120x1536 .fp8e4m3) (s : Vec Ideal S40x12 .i8) (r : Fin 5120) (j : Fin 1536) :
    k0_pay2 v s (ix2 r j) = v (ix2 r j) * Scale.byteVal (s (ix2 ⟨r.val / 128, by omega⟩ ⟨j.val / 128, by omega⟩)) := by
  rw [← scale_apply S40x12 s]
  pointwise [k0_pay2]

/-- The second weight widened, at one place. -/
theorem cols_apply (v : Vec Ideal S1536x5120 .fp8e4m3) (s : Vec Ideal S12x40 .i8) (r : Fin 1536) (j : Fin 5120) :
    k0_pay5 v s (ix2 r j) = v (ix2 r j) * Scale.byteVal (s (ix2 ⟨r.val / 128, by omega⟩ ⟨j.val / 128, by omega⟩)) := by
  rw [← scale_apply S12x40 s]
  pointwise [k0_pay5]
end Cert.RefQuant
-- ==== Proof.RefArrays.lean ====
module

public import proofs.«01_k».proof.Proof.Gen.ReferenceIdeal.Value
public import proofs.«01_k».proof.Proof.RefQuant
public import proofs.«01_k».proof.Proof.RefProducts
public import proofs.«01_k».proof.Proof.RefWiden
public import proofs.«01_k».proof.Proof.Results

/-!
The reference's result arrays as functions of its argument arrays.
-/

@[expose] public section

set_option maxRecDepth 16384

noncomputable section

namespace Cert.RefQuant
open Idealize.ShloMosaic Idealize.SL.Sem Cert.ReferenceIdeal Cert.ReferenceIdeal.Gen

open Cert.Target Cert.ReferenceIdeal.Value

/-- The zero offset. -/
theorem hz2 : (![0, 0] : Fin 2 → Nat) = fun _ => 0 := funext fun a => by fin_cases a <;> rfl

/-- The last 384 rows of an array, read at an index. -/
theorem tail_apply (v : Vec Ideal S1536x5120 .bf16) (k : Fin 384) (j : Fin 5120) (r : Fin 1536) (h : r.val = 1152 + k.val) :
    View.ld v r0_6 (ix2 k j) = v (ix2 r j) := by
  show v (r0_6.emb (ix2 k j)) = _
  congr 1
  funext a; apply Fin.ext
  match a with
  | ⟨0, _⟩ => show 1152 + 1 * k.val = r.val; omega
  | ⟨1, _⟩ => show 0 + 1 * j.val = j.val; omega

/-- A load of a whole array is the array. -/
theorem whole_ld (v : Vec Ideal S1536x5120 .bf16) : View.ld v r0_2 = v := View.ld_unit_zero (S := S1536x5120) hz2 _ v

variable (a0 : Vec Ideal S1536x5120 .bf16) (a1 : Vec Ideal S1536x5120 .bf16) (a2 : Vec Ideal S5120x1536 .fp8e4m3) (a3 : Vec Ideal S40x12 .i8) (a4 : Vec Ideal S5120x1536 .fp8e4m3) (a5 : Vec Ideal S40x12 .i8) (a6 : Vec Ideal S1536x5120 .fp8e4m3) (a7 : Vec Ideal S12x40 .i8) (a8 : Vec Ideal S1536x1536 .bf16) (a9 : Vec Ideal S1536x1536 .bf16) (a10 : Vec Ideal S1536x1536 .bf16) (a11 : Vec Ideal S1536x1536 .fp8e4m3) (a12 : Vec Ideal S6x2x1536 .i8) (a13 : Vec Ideal S1536x1536 .fp8e4m3) (a14 : Vec Ideal S6x2x1536 .i8) (a15 : Vec Ideal S1536x1536 .fp8e4m3) (a16 : Vec Ideal S6x2x1536 .i8) (a17 : Vec Ideal S1536x5120 .bf16) (a18 : Vec Ideal S1536x5120 .bf16)

/-- The widened values of the columns of `x`, as the first weight's gradient uses them. -/
theorem wideX : k0_pay32 a0 a1 a2 a3 a4 a5 a6 a7 a8 a9 a10 a11 a12 a13 a14 a15 a16 a17 a18 = k0_pay21 (k0_pay14 a0) (k0_pay15 a0) (k0_pay16 a0) := by
  unfold k0_pay32 k0_pay29 k0_pay30 k0_pay31
  rw [whole_ld]
  rfl

/-- The reference's first result: `y`. -/
theorem G19_eq : G19 a0 a1 a2 a3 a4 a5 a6 a7 a8 a9 a10 a11 a12 a13 a14 a15 a16 a17 a18 = fun (i : S1536x5120.Idx) => stackM (yM (fun r j => a8 (ix2 r j)) (fun r j => a6 (ix2 r j)) (fun r j => a7 (ix2 r j))) (fun r j => a17 (ix2 r j)) (i 0) (i 1) := by
  funext i
  idx_vars i
  show k0_pay22 (k0_pay5 a6 a7) a8 (View.ld a17 r0_6) (ix2 i0 i1) = stackM _ _ i0 i1
  rw [y_apply]
  unfold stackM
  split
  · exact Finset.sum_congr rfl fun k _ => by rw [cols_apply]; rfl
  · exact tail_apply a17 _ _ _ (by show i0.val = 1152 + (i0.val - 1152); omega)

/-- The reference's second result: `dx`. -/
theorem G20_eq : G20 a0 a1 a2 a3 a4 a5 a6 a7 a8 a9 a10 a11 a12 a13 a14 a15 a16 a17 a18 = fun (i : S1536x5120.Idx) => stackM (dxM (fun r j => a9 (ix2 r j)) (fun r j => a10 (ix2 r j)) (fun r j => a2 (ix2 r j)) (fun r j => a3 (ix2 r j)) (fun r j => a4 (ix2 r j)) (fun r j => a5 (ix2 r j))) (fun r j => a18 (ix2 r j)) (i 0) (i 1) := by
  funext i
  idx_vars i
  show k0_pay23 (k0_pay2 a2 a3) (k0_pay2 a4 a5) a9 a10 (View.ld a18 r0_6) (ix2 i0 i1) = stackM _ _ i0 i1
  rw [dx_apply]
  unfold stackM
  split
  · exact congrArg₂ (· + ·) (Finset.sum_congr rfl fun k _ => by rw [rows_apply]; rfl) (Finset.sum_congr rfl fun k _ => by rw [rows_apply]; rfl)
  · exact tail_apply a18 _ _ _ (by show i0.val = 1152 + (i0.val - 1152); omega)

/-- The reference's third result: the gradient of the first weight. -/
theorem G21_eq : G21 a0 a1 a2 a3 a4 a5 a6 a7 a8 a9 a10 a11 a12 a13 a14 a15 a16 a17 a18 = fun (i : S5120x1536.Idx) => upGradM (fun r j => a0 (ix2 r j)) (fun r j => a13 (ix2 r j)) (fun g k j => a14 (ix3 g k j)) (i 0) (i 1) := by
  funext i
  idx_vars i
  show gradQ (k0_pay32 a0 a1 a2 a3 a4 a5 a6 a7 a8 a9 a10 a11 a12 a13 a14 a15 a16 a17 a18) (k0_pay24 a13 a14) (ix2 i0 i1) = upGradM _ _ _ i0 i1
  rw [grad_apply, wideX]
  exact Finset.sum_congr rfl fun k _ => by rw [wideQ_apply, unq_apply]; rfl

/-- The reference's fourth result: the gradient of the third weight. -/
theorem G22_eq : G22 a0 a1 a2 a3 a4 a5 a6 a7 a8 a9 a10 a11 a12 a13 a14 a15 a16 a17 a18 = fun (i : S5120x1536.Idx) => upGradM (fun r j => a0 (ix2 r j)) (fun r j => a15 (ix2 r j)) (fun g k j => a16 (ix3 g k j)) (i 0) (i 1) := by
  funext i
  idx_vars i
  show gradQ (k0_pay32 a0 a1 a2 a3 a4 a5 a6 a7 a8 a9 a10 a11 a12 a13 a14 a15 a16 a17 a18) (k0_pay24 a15 a16) (ix2 i0 i1) = upGradM _ _ _ i0 i1
  rw [grad_apply, wideX]
  exact Finset.sum_congr rfl fun k _ => by rw [wideQ_apply, unq_apply]; rfl

/-- The reference's fifth result: the gradient of the second weight. -/
theorem G23_eq : G23 a0 a1 a2 a3 a4 a5 a6 a7 a8 a9 a10 a11 a12 a13 a14 a15 a16 a17 a18 = fun (i : S1536x5120.Idx) => downGradM (fun r j => a1 (ix2 r j)) (fun r j => a11 (ix2 r j)) (fun g k j => a12 (ix3 g k j)) (i 0) (i 1) := by
  funext i
  idx_vars i
  show k0_pay25 (k0_pay21 (k0_pay14 (View.ld a1 r0_2)) (k0_pay15 (View.ld a1 r0_2)) (k0_pay16 (View.ld a1 r0_2))) (k0_pay24 a11 a12) (constant S1536x5120 .f32 0x00000000#32) (ix2 i0 i1) = downGradM _ _ _ i0 i1
  rw [whole_ld, dw2_apply]
  exact Finset.sum_congr rfl fun k _ => by rw [wideQ_apply, unq_apply]; rfl

/-- The reference's sixth result: the codes of the columns of `x`. -/
theorem G24_eq : G24 a0 a1 a2 a3 a4 a5 a6 a7 a8 a9 a10 a11 a12 a13 a14 a15 a16 a17 a18 = fun (i : S1536x5120.Idx) => codesM (fun r j => a0 (ix2 r j)) (i 0) (i 1) := by
  funext i
  idx_vars i
  show k0_pay20 (k0_pay14 (View.ld a0 r0_2)) (k0_pay15 (View.ld a0 r0_2)) (k0_pay16 (View.ld a0 r0_2)) (ix2 i0 i1) = codesM _ i0 i1
  rw [whole_ld, codesQ_apply]
  rfl

/-- The reference's seventh result: their bytes. -/
theorem G25_eq : G25 a0 a1 a2 a3 a4 a5 a6 a7 a8 a9 a10 a11 a12 a13 a14 a15 a16 a17 a18 = fun (i : S6x2x5120.Idx) => bytesM (fun r j => a0 (ix2 r j)) (i 0) (i 1) (i 2) := by
  funext i
  idx_vars i
  show k0_pay19 (k0_pay15 (View.ld a0 r0_2)) (k0_pay16 (View.ld a0 r0_2)) (ix3 i0 i1 i2) = bytesM _ i0 i1 i2
  rw [whole_ld, bytesQ_apply]
  rfl

/-- The reference's eighth result: the codes of the columns of `dy`. -/
theorem G26_eq : G26 a0 a1 a2 a3 a4 a5 a6 a7 a8 a9 a10 a11 a12 a13 a14 a15 a16 a17 a18 = fun (i : S1536x5120.Idx) => codesM (fun r j => a1 (ix2 r j)) (i 0) (i 1) := by
  funext i
  idx_vars i
  show k0_pay20 (k0_pay14 (View.ld a1 r0_2)) (k0_pay15 (View.ld a1 r0_2)) (k0_pay16 (View.ld a1 r0_2)) (ix2 i0 i1) = codesM _ i0 i1
  rw [whole_ld, codesQ_apply]
  rfl

/-- The reference's ninth result: their bytes. -/
theorem G27_eq : G27 a0 a1 a2 a3 a4 a5 a6 a7 a8 a9 a10 a11 a12 a13 a14 a15 a16 a17 a18 = fun (i : S6x2x5120.Idx) => bytesM (fun r j => a1 (ix2 r j)) (i 0) (i 1) (i 2) := by
  funext i
  idx_vars i
  show k0_pay19 (k0_pay15 (View.ld a1 r0_2)) (k0_pay16 (View.ld a1 r0_2)) (ix3 i0 i1 i2) = bytesM _ i0 i1 i2
  rw [whole_ld, bytesQ_apply]
  rfl

end Cert.RefQuant
-- ==== Proof.Agree.lean ====
module

public import proofs.«01_k».proof.Defs
public import proofs.«01_k».proof.Proof.KernelResults
public import proofs.«01_k».proof.Proof.RefArrays

/-!
The kernel and the reference end with the same results from the same arguments.
-/

@[expose] public section

set_option maxRecDepth 16384

noncomputable section

namespace Cert.Agree

open Idealize.ShloMosaic Idealize.SL.Sem Cert.Target

/-- `y`: the reference's array is the kernel's. -/
theorem same_0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.G19 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_0 m c := by
  rw [Cert.RefQuant.G19_eq, h8, h6, h7, h17]
  rfl

/-- `dx`: the reference's array is the kernel's. -/
theorem same_1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.G20 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_1 m c := by
  rw [Cert.RefQuant.G20_eq, h9, h10, h2, h3, h4, h5, h18]
  rfl

/-- The first weight's gradient: the reference's array is the kernel's. -/
theorem same_2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.G21 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_2 m c := by
  rw [Cert.RefQuant.G21_eq, h0, h13, h14]
  rfl

/-- The third weight's gradient: the reference's array is the kernel's. -/
theorem same_3 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.G22 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_3 m c := by
  rw [Cert.RefQuant.G22_eq, h0, h15, h16]
  rfl

/-- The second weight's gradient: the reference's array is the kernel's. -/
theorem same_4 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.G23 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_4 m c := by
  rw [Cert.RefQuant.G23_eq, h1, h11, h12]
  rfl

/-- The codes of the columns of `x`: the reference's array is the kernel's. -/
theorem same_5 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.G24 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_5 m c := by
  rw [Cert.RefQuant.G24_eq, h0]
  rfl

/-- The scales of the columns of `x`: the reference's array is the kernel's. -/
theorem same_6 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.G25 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_6 m c := by
  rw [Cert.RefQuant.G25_eq, h0]
  rfl

/-- The codes of the columns of `dy`: the reference's array is the kernel's. -/
theorem same_7 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.G26 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_7 m c := by
  rw [Cert.RefQuant.G26_eq, h1]
  rfl

/-- The scales of the columns of `dy`: the reference's array is the kernel's. -/
theorem same_8 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.G27 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Gen.result_8 m c := by
  rw [Cert.RefQuant.G27_eq, h1]
  rfl

/-- From equal arguments the two programs end with equal results and unchanged arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.result_0 m c, fun c => Cert.KernelIdeal.Gen.result_1 m c, fun c => Cert.KernelIdeal.Gen.result_2 m c, fun c => Cert.KernelIdeal.Gen.result_3 m c, fun c => Cert.KernelIdeal.Gen.result_4 m c, fun c => Cert.KernelIdeal.Gen.result_5 m c, fun c => Cert.KernelIdeal.Gen.result_6 m c, fun c => Cert.KernelIdeal.Gen.result_7 m c, fun c => Cert.KernelIdeal.Gen.result_8 m c, ?_, ?_⟩
  · refine (θ_run _ _ _).mono (fun r h c => ?_)
      (θ_run_and (Cert.KernelIdeal.Gen.run_results m g) (Cert.KernelIdeal.Gen.unchanged m g))
    obtain ⟨q0, q1, q2, q3, q4, q5, q6, q7, q8⟩ := h.1 c
    exact ⟨q0, q1, q2, q3, q4, q5, q6, q7, q8, h.2 c⟩
  · refine (θ_run _ _ _).mono (fun r h c => ?_) (Cert.ReferenceIdeal.Value.run m' g')
    obtain ⟨a0, a1, a2, a3, a4, a5, a6, a7, a8, a9, a10, a11, a12, a13, a14, a15, a16, a17, a18⟩ := hargs c
    obtain ⟨q0, q1, q2, q3, q4, q5, q6, q7, q8, kept⟩ := h c
    exact ⟨q0.trans (same_0 m m' c a8 a6 a7 a17),
      q1.trans (same_1 m m' c a9 a10 a2 a3 a4 a5 a18),
      q2.trans (same_2 m m' c a0 a13 a14),
      q3.trans (same_3 m m' c a0 a15 a16),
      q4.trans (same_4 m m' c a1 a11 a12),
      q5.trans (same_5 m m' c a0),
      q6.trans (same_6 m m' c a0),
      q7.trans (same_7 m m' c a1),
      q8.trans (same_8 m m' c a1), kept⟩

end Cert.Agree

end
-- ==== Proof.SameProgram.lean ====
module
public import proofs.«01_k».proof.Defs
public import proofs.«01_k».proof.Proof.Gen.Kernel
public import proofs.«01_k».proof.Proof.Gen.KernelIdeal
public import Idealize.ShloMosaic.Lib.Claim
/-! # The kernel's program and its ideal program are one program

The ideal program is the kernel's, read over the extended reals; as a program over any float model it is the same text.
So a frame proved of the one at the machine's floats is a frame of the other. -/

@[expose] public section

set_option maxRecDepth 16384

noncomputable section

namespace Cert.SameProgram

open Idealize.ShloMosaic Idealize.SL.Sem
/-- The kernel's frame claim, word for word with the ideal program's names. -/
theorem kernel_frame_eq : Cert.quiescent_Kernel (hKernel := Cert.Kernel.Gen.facts) =
  (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)) := by sl_kernel_rfl

end Cert.SameProgram

end
-- ==== Proof.lean ====
module

public import proofs.«01_k».proof.Defs
public import proofs.«01_k».proof.Proof.Gen.ReferenceIdeal.Value
public import proofs.«01_k».proof.Proof.Gen.Kernel
public import proofs.«01_k».proof.Proof.KernelRun
public import proofs.«01_k».proof.Proof.Agree
public import proofs.«01_k».proof.Proof.SameProgram
public import proofs.«01_k».proof.Proof.WidenValues
public import proofs.«01_k».proof.Proof.BandValues
public import Idealize.ShloMosaic.Adequacy
public import Idealize.ShloMosaic.Init

@[expose] public section

noncomputable section

namespace Cert.Proof

open Idealize.ShloMosaic Idealize.SL.Sem Cert.Kernel

/-- The kernel's frame, from the same program's frame under the ideal program's names. -/
theorem kernel_frame : Cert.quiescent_Kernel (hKernel := Cert.Kernel.Gen.facts) :=
  Eq.mpr Cert.SameProgram.kernel_frame_eq (fun m g _ => Cert.KernelIdeal.Gen.frame m g)

theorem claim : Cert.Claim := ⟨Cert.Kernel.Gen.facts, Cert.KernelIdeal.Gen.facts, Cert.ReferenceIdeal.Gen.facts,
  kernel_frame,
  fun m ρ _ => Cert.KernelIdeal.Gen.frame m ρ,
  fun m ρ _ => Cert.ReferenceIdeal.Gen.frame m ρ,
  trivial,
  Cert.Agree.algebraic⟩

end Cert.Proof

end
